-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S100000x512 : Shape := ⟨2, ![100000, 512]⟩
abbrev S100000 : Shape := ⟨1, ![100000]⟩
abbrev S512x1 : Shape := ⟨2, ![512, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg1 : IVec S100000 32) (main_v13 : IVec S_ 1) (main_v15 : IVec S100000 1) (main_c_5 : IVec S_ 1) : IVec S_ 1 :=
  let main_v16 : IVec S_ 1 := (fun x v => Host.reduce IntOp.andi x v reducesTo_S100000_S_d0 h_S_) main_v15 main_c_5
  let main_v17 : IVec S_ 1 := andi main_v13 main_v16
  let main_c_6 : IVec S_ 32 := constantI S_ 32 128#32
  let main_v18 : IVec S100000 32 := broadcastInDim S100000 ![] bcast_S_S100000 main_c_6
  let main_v19 : IVec S100000 1 := cmpi .slt main_arg1 main_v18
  let main_c_7 : IVec S_ 1 := constantI S_ 1 1#1
  let main_v20 : IVec S_ 1 := (fun x v => Host.reduce IntOp.andi x v reducesTo_S100000_S_d0 h_S_) main_v19 main_c_7
  let main_v21 : IVec S_ 1 := andi main_v17 main_v20
  main_v21

def fn {F : FTy → Type} [FloatOps F] (main_arg0 : FVec F S100000x512 .f32) (main_arg1 : IVec S100000 32) (main_arg2 : FVec F S512x1 .f32) (main_arg3 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1 .f32 := Host.absf main_arg2
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg1 main_v14
  let main_c_5 : IVec S_ 1 := constantI S_ 1 1#1
  fn_part1 (F := F) main_arg1 main_v13 main_v15 main_c_5
-- ==== Kernel.lean ====
abbrev S100000x512 : Shape := ⟨2, ![100000, 512]⟩
abbrev S100000 : Shape := ⟨1, ![100000]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S20x1x5000 : Shape := ⟨3, ![20, 1, 5000]⟩
abbrev S128x512 : Shape := ⟨2, ![128, 512]⟩
abbrev S1x1x5000 : Shape := ⟨3, ![1, 1, 5000]⟩
abbrev S3x5000x512 : Shape := ⟨3, ![3, 5000, 512]⟩
abbrev S3 : Shape := ⟨1, ![3]⟩
abbrev S128x1 : Shape := ⟨2, ![128, 1]⟩
abbrev S_ : Shape := ⟨0, ![]⟩
abbrev S1x5000x512 : Shape := ⟨3, ![1, 5000, 512]⟩
abbrev S5000x512 : Shape := ⟨2, ![5000, 512]⟩
abbrev S1x5000 : Shape := ⟨2, ![1, 5000]⟩
abbrev S128x5000 : Shape := ⟨2, ![128, 5000]⟩
abbrev S128 : Shape := ⟨1, ![128]⟩
abbrev S5000 : Shape := ⟨1, ![5000]⟩
abbrev S5000x1 : Shape := ⟨2, ![5000, 1]⟩

abbrev nBuf : Space → Nat
  | .hbm => 8
  | .vmem => 9
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x1, .f32⟩
  | .hbm, ⟨3, _⟩ => ⟨S1, .f32⟩
  | .hbm, ⟨4, _⟩ => ⟨S1x512, .f32⟩
  | .hbm, ⟨5, _⟩ => ⟨S1x1, .f32⟩
  | .hbm, ⟨6, _⟩ => ⟨S20x1x5000, .i32⟩
  | .hbm, ⟨7, _⟩ => ⟨S128x512, .f32⟩
  | .local _ .vmem, ⟨0, _⟩ => ⟨S1x1x5000, .i32⟩
  | .local _ .vmem, ⟨1, _⟩ => ⟨S1x1x5000, .i32⟩
  | .local _ .vmem, ⟨2, _⟩ => ⟨S1x512, .f32⟩
  | .local _ .vmem, ⟨3, _⟩ => ⟨S1x1, .f32⟩
  | .local _ .vmem, ⟨4, _⟩ => ⟨S128x512, .f32⟩
  | .local _ .vmem, ⟨5, _⟩ => ⟨S3x5000x512, .f32⟩
  | .local _ .vmem, ⟨6, _⟩ => ⟨S128x1, .f32⟩
  | .local _ .vmem, ⟨7, _⟩ => ⟨S128x1, .f32⟩
  | .local _ .vmem, ⟨8, _⟩ => ⟨S128x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![20], ![false]⟩

def k0_off1 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off2 (i : grid0.Coords) : Fin 3 → Nat :=
  let arg0 : BitVec 32 := BitVec.ofNat 32 (i 0).val
  let c3_i32 : BitVec 32 := 3#32
  let v3 : BitVec 32 := Scalar.remsi arg0 c3_i32
  let c0_i32_1 : BitVec 32 := 0#32
  let c0_i32_2 : BitVec 32 := 0#32
  ![v3.toNat, 0, 0]
def k0_off3 (i : grid0.Coords) : Fin 2 → Nat :=
  let arg0 : BitVec 32 := BitVec.ofNat 32 (i 0).val
  let c5000_i32 : BitVec 32 := 5000#32
  let v4 : BitVec 32 := Scalar.muli arg0 c5000_i32
  let c0_i32_3 : BitVec 32 := 0#32
  ![v4.toNat, 0]
def k0_cond2 (i : grid0.Coords) : BitVec 1 :=
  let arg0 : BitVec 32 := BitVec.ofNat 32 (i 0).val
  let c2_i32 : BitVec 32 := 2#32
  let v10 : BitVec 32 := Scalar.addi arg0 c2_i32
  let c20_i32 : BitVec 32 := 20#32
  let v11 : BitVec 1 := Scalar.cmpi .slt v10 c20_i32
  let v12 : BitVec 32 := Scalar.extui v11
  let c0_i32_4 : BitVec 32 := 0#32
  let v13 : BitVec 1 := Scalar.cmpi .ne v12 c0_i32_4
  v13

def k0_off4 (i : grid0.Coords) : Fin 1 → Nat :=
  let arg0 : BitVec 32 := BitVec.ofNat 32 (i 0).val
  let c2_i32_36 : BitVec 32 := 2#32
  let v87 : BitVec 32 := Scalar.addi arg0 c2_i32_36
  let c3_i32_37 : BitVec 32 := 3#32
  let v88 : BitVec 32 := Scalar.remsi v87 c3_i32_37
  ![v88.toNat]
def k0_off5 (i : grid0.Coords) : Fin 3 → Nat :=
  let arg0 : BitVec 32 := BitVec.ofNat 32 (i 0).val
  let c2_i32_36 : BitVec 32 := 2#32
  let v87 : BitVec 32 := Scalar.addi arg0 c2_i32_36
  let c3_i32_37 : BitVec 32 := 3#32
  let v88 : BitVec 32 := Scalar.remsi v87 c3_i32_37
  let c0_i32_39 : BitVec 32 := 0#32
  let c0_i32_40 : BitVec 32 := 0#32
  ![v88.toNat, 0, 0]
def k0_off6 (i : grid0.Coords) : Fin 2 → Nat :=
  let arg0 : BitVec 32 := BitVec.ofNat 32 (i 0).val
  let c2_i32_36 : BitVec 32 := 2#32
  let v87 : BitVec 32 := Scalar.addi arg0 c2_i32_36
  let c5000_i32_38 : BitVec 32 := 5000#32
  let v89 : BitVec 32 := Scalar.muli v87 c5000_i32_38
  let c0_i32_41 : BitVec 32 := 0#32
  ![v89.toNat, 0]
def k0_off7 (i : grid0.Coords) : Fin 3 → Nat :=
  let arg0 : BitVec 32 := BitVec.ofNat 32 (i 0).val
  let c3_i32 : BitVec 32 := 3#32
  let v3 : BitVec 32 := Scalar.remsi arg0 c3_i32
  let v14 : Index := Scalar.indexCast v3
  let c0 : Index := 0#32
  let c0_5 : Index := 0#32
  ![v14.toNat, 0, 0]
def k0_cond3 (i : grid0.Coords) : BitVec 1 :=
  let arg0 : BitVec 32 := BitVec.ofNat 32 (i 0).val
  let c19_i32 : BitVec 32 := 19#32
  let v84 : BitVec 1 := Scalar.cmpi .eq arg0 c19_i32
  let v85 : BitVec 32 := Scalar.extui v84
  let c0_i32_35 : BitVec 32 := 0#32
  let v86 : BitVec 1 := Scalar.cmpi .ne v85 c0_i32_35
  v86

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x5000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S100000x512 : Shape := ⟨2, ![100000, 512]⟩
abbrev S100000 : Shape := ⟨1, ![100000]⟩
abbrev S512x1 : Shape := ⟨2, ![512, 1]⟩
abbrev S1 : Shape := ⟨1, ![1]⟩
abbrev S100000x1 : Shape := ⟨2, ![100000, 1]⟩
abbrev S1x1 : Shape := ⟨2, ![1, 1]⟩
abbrev S1x100000 : Shape := ⟨2, ![1, 100000]⟩
abbrev S128 : Shape := ⟨1, ![128]⟩
abbrev S128x1 : Shape := ⟨2, ![128, 1]⟩
abbrev S128x100000 : Shape := ⟨2, ![128, 100000]⟩
abbrev S_ : Shape := ⟨0, ![]⟩
abbrev S128x512 : Shape := ⟨2, ![128, 512]⟩

abbrev nBuf : Space → Nat
  | .hbm => 55
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x1, .f32⟩
  | .hbm, ⟨3, _⟩ => ⟨S1, .f32⟩
  | .hbm, ⟨4, _⟩ => ⟨S100000x1, .f32⟩
  | .hbm, ⟨5, _⟩ => ⟨S1x1, .f32⟩
  | .hbm, ⟨6, _⟩ => ⟨S100000x1, .f32⟩
  | .hbm, ⟨7, _⟩ => ⟨S100000x1, .f32⟩
  | .hbm, ⟨8, _⟩ => ⟨S100000, .f32⟩
  | .hbm, ⟨9, _⟩ => ⟨S1x100000, .i32⟩
  | .hbm, ⟨10, _⟩ => ⟨S128, .i32⟩
  | .hbm, ⟨11, _⟩ => ⟨S128x1, .i32⟩
  | .hbm, ⟨12, _⟩ => ⟨S128x100000, .i32⟩
  | .hbm, ⟨13, _⟩ => ⟨S128x100000, .i32⟩
  | .hbm, ⟨14, _⟩ => ⟨S128x100000, .i1⟩
  | .hbm, ⟨15, _⟩ => ⟨S1x100000, .f32⟩
  | .hbm, ⟨16, _⟩ => ⟨S_, .f32⟩
  | .hbm, ⟨17, _⟩ => ⟨S_, .f32⟩
  | .hbm, ⟨18, _⟩ => ⟨S128x100000, .f32⟩
  | .hbm, ⟨19, _⟩ => ⟨S128x100000, .f32⟩
  | .hbm, ⟨20, _⟩ => ⟨S128x100000, .f32⟩
  | .hbm, ⟨21, _⟩ => ⟨S_, .f32⟩
  | .hbm, ⟨22, _⟩ => ⟨S128, .f32⟩
  | .hbm, ⟨23, _⟩ => ⟨S_, .i32⟩
  | .hbm, ⟨24, _⟩ => ⟨S100000, .i32⟩
  | .hbm, ⟨25, _⟩ => ⟨S100000, .i1⟩
  | .hbm, ⟨26, _⟩ => ⟨S_, .i32⟩
  | .hbm, ⟨27, _⟩ => ⟨S100000, .i32⟩
  | .hbm, ⟨28, _⟩ => ⟨S100000, .i32⟩
  | .hbm, ⟨29, _⟩ => ⟨S100000, .i32⟩
  | .hbm, ⟨30, _⟩ => ⟨S100000x1, .i32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S128, .f32⟩
  | .hbm, ⟨36, _⟩ => ⟨S100000x1, .i32⟩
  | .hbm, ⟨37, _⟩ => ⟨S128, .f32⟩
  | .hbm, ⟨38, _⟩ => ⟨S_, .i32⟩
  | .hbm, ⟨39, _⟩ => ⟨S100000, .i32⟩
  | .hbm, ⟨40, _⟩ => ⟨S100000, .i1⟩
  | .hbm, ⟨41, _⟩ => ⟨S_, .i32⟩
  | .hbm, ⟨42, _⟩ => ⟨S100000, .i32⟩
  | .hbm, ⟨43, _⟩ => ⟨S100000, .i32⟩
  | .hbm, ⟨44, _⟩ => ⟨S100000, .i32⟩
  | .hbm, ⟨45, _⟩ => ⟨S100000x1, .i32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x512, .f32⟩
  | .hbm, ⟨50, _⟩ => ⟨S100000x512, .f32⟩
  | .hbm, ⟨51, _⟩ => ⟨S_, .f32⟩
  | .hbm, ⟨52, _⟩ => ⟨S128x512, .f32⟩
  | .hbm, ⟨53, _⟩ => ⟨S100000x1, .i32⟩
  | .hbm, ⟨54, _⟩ => ⟨S128x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Ring.lean ====
/-
  The ring through which the idealized kernel streams `x`: its three slots, the transfers in flight between two grid
  points, the grid conditions of the body's branches, and the memory the body works on. Everything the four runs of the
  body (RunA to RunD) and the launch (Tracked) share.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, and the staged inputs -/

set_option maxHeartbeats 800000 in
/-- @main up to the region: the lines of host operations then the region
    (`Pipeline.hmain_prefixes`, off `main_chain`). -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- Input window 0's current staging buffer holds its block at every point, fetched there or not, for ANY proof
    data whose array is `V`'s (`hA`) and whose body leaves the block in place (`hafter`).
    `Dat.before_in_eq_fetched` (unfetched, the index has not moved), the window uncut and never idle. -/
theorem before_of_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`).
    `Dat.before_in_eq_fetched` (unfetched, the index has not moved), the window uncut and never idle. -/
theorem before_of_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`).
    `Dat.before_in_eq_fetched` (unfetched, the index has not moved), the window uncut and never idle. -/
theorem before_of_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, e0]
    word_cmp
   : ∀ t : Fin grid0.N, cond0_0 (grid0.coords t) ↔ t.val % 20 = 0)

/-- The condition of the body's `scf.if` 1 (`k0_h2`), from the grid coordinates (the skeleton's scalar
    chain substituted). -/
abbrev cond0_1 (i : grid0.Coords) : Prop := k0_cond2 i = 1#1
/-- It holds at the points before point 18 — decided over the grid. -/
theorem hcond0_1 : ∀ t : Fin cfg0.N, cond0_1 (grid0.coords t) ↔ t.val < 18 :=
  (by decide +kernel : ∀ t : Fin grid0.N, cond0_1 (grid0.coords t) ↔ t.val < 18)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 20 = 19 :=
  (fun t => by
    have ht : t.val < 20 := Nat.lt_of_lt_of_eq t.isLt N_0
    have e0 : (grid0.coords t 0).val = t.val / 1 % 20 := Pipeline.Grid.coords_val t 0 (by decide) rfl
    simp only [cond0_2, k0_cond3, e0]
    word_cmp
   : ∀ t : Fin grid0.N, cond0_2 (grid0.coords t) ↔ t.val % 20 = 19)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1x5000 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S3x5000x512 .f32 := Memref.whole cc0_scratch0
abbrev scM0_1 : Memref sig .tc .vmem S128x1 .f32 := Memref.whole cc0_scratch2
abbrev scM0_2 : Memref sig .tc .vmem S128x1 .f32 := Memref.whole cc0_scratch3
abbrev scM0_3 : Memref sig .tc .vmem S128x512 .f32 := Memref.whole cc0_scratch4
/-- The operands left in HBM that the body copies into scratch itself, whole. -/
abbrev hbM0_0 : Memref sig .tc .hbm S100000x512 .f32 := Memref.whole main_arg0
/-- Memref `M`'s buffer on core `c`: its contents type, and it held whole at `f` — behind this abbreviation, so that the
    run's rewriting of the goal leaves `Memref.view` intact (the form in which a held buffer is read). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 5, SemLoc.dma 6, SemLoc.dma 7] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0) ∗ iprop(hbPt0 c hbM0_0 (V m c main_arg0))) := by
  rw [Pipeline.ΦD_eq, scopedRest0_eq, ownSems00_eq, hbmPts0_eq]; simp only [scM0_0, scM0_1, scM0_2, scM0_3, owns_whole]; try rfl

/-! ## Ring 0 of kernel 0: `main_arg0` streamed through the 3 slots of `cc0_scratch0` on the cells of `cc0_scratch1`, 2 block ahead, in 20 steps -/

instance : NeZero grid0.N := ⟨by rw [N_0]; decide⟩
theorem inb_slot0_0 (s : Fin 3) : ∀ a, (![s.val, 0, 0] : Fin 3 → Nat) a + S1x5000x512.size a ≤ S3x5000x512.size a := by
  have := s.isLt; intro a; fin_cases a <;> simp <;> omega
theorem inb_src0_0 (b : Fin 20) : ∀ a, (![5000 * b.val, 0] : Fin 2 → Nat) a + S5000x512.size a ≤ S100000x512.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S5000x512 .f32 :=
  (scM0_0.slice (Rect.unit (s := S3x5000x512) ![s.val, 0, 0] S1x5000x512.size (inb_slot0_0 s)) (fun _ => rfl)).squeeze S5000x512 squeezes_S1x5000x512_S5000x512
/-- Block `b` of the operand (the block step `b` waits), spelt as the transfers spell their source, at offsets in `b`. -/
def srcB0_0 (b : Fin 20) : Memref sig .tc .hbm S5000x512 .f32 :=
  hbM0_0.slice (Rect.unit (s := S100000x512) ![5000 * b.val, 0] S5000x512.size (inb_src0_0 b)) (fun _ => rfl)
/-- Cell `s` of `cc0_scratch1`, spelt as the body spells a cell; its number in the pool. -/
def cellA0_0 (s : Fin 3) : DmaSems sig S_ := (cc0_scratch1.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 5 := by decide
theorem cellR0_0_1 : cellR0_0 1 = SemLoc.dma 6 := by decide
theorem cellR0_0_2 : cellR0_0 2 = SemLoc.dma 7 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 20) : sProp 𝕄 := (srcB0_0 b).view.loc (c : Thread nD τ) ↦[(srcB0_0 b).view.set]{qs0_0 s} W
/-- (a `def`: no run reads this rest, so it stays folded) -/
def restP0_0 (s : Fin 3) (b : Fin 20) : sProp 𝕄 := ((c : Thread nD τ).loc main_arg0) ↦[Finset.univ \ (srcB0_0 b).view.set]{qs0_0 s} W
abbrev wholeP0_0 (s : Fin 3) : sProp 𝕄 := ((c : Thread nD τ).loc main_arg0) ↦[Finset.univ]{qs0_0 s} W
abbrev landed0_0 (s : Fin 3) (b : Fin 20) (f : HbBuf0 (F := F) c (rslot0_0 s)) : HbBuf0 (F := F) c (rslot0_0 s) :=
  (rslot0_0 s).view.writes (Elt F) f [⟨Rect.whole S5000x512, ReadAs.same.apply ((srcB0_0 b).view.read (Elt F) W)⟩]
abbrev flightP0_0 (s : Fin 3) (b : Fin 20) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- The library's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 20) (f : HbBuf0 (F := F) c (rslot0_0 s)) : sProp 𝕄 := iprop(flightP0_0 c W s b f ∗ restP0_0 c W s b)
abbrev noHome0_0 (b : Fin 20) : sProp 𝕄 := iprop(emp)
/-- The ring before its step `k`: every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 5) 0 := congrArg (fun x => (semVal ((c : Thread nD τ), x) 0 : sProp 𝕄)) cellR0_0_0
omit [FloatOps F] in
theorem cellP0_0_1 : cellP0_0 (F := F) c 1 = semVal ((c : Thread nD τ), SemLoc.dma 6) 0 := congrArg (fun x => (semVal ((c : Thread nD τ), x) 0 : sProp 𝕄)) cellR0_0_1
omit [FloatOps F] in
theorem cellP0_0_2 : cellP0_0 (F := F) c 2 = semVal ((c : Thread nD τ), SemLoc.dma 7) 0 := congrArg (fun x => (semVal ((c : Thread nD τ), x) 0 : sProp 𝕄)) cellR0_0_2
end Ring0_0

/-! ### The slots, disjoint and covering the scratch -/

abbrev slotSet0_0 (s : Fin 3) : Finset S3x5000x512.Idx := (Rect.unit (s := S3x5000x512) ![s.val, 0, 0] S1x5000x512.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x5000x512) (0 : Fin 3) 1 (fun s : Fin 3 => (![s.val, 0, 0] : Fin 3 → Nat)) S1x5000x512.size inb_slot0_0 (fun s => by simp) rfl s s' h
theorem slots0_0_cover : Finset.univ.biUnion slotSet0_0 = Finset.univ :=
  Ring.lead_cover (s := S3x5000x512) (0 : Fin 3) 1 (fun s : Fin 3 => (![s.val, 0, 0] : Fin 3 → Nat)) S1x5000x512.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 20) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ (∃ f, slotP0_0 (F := F) c 1 f) ∗ ∃ f, slotP0_0 (F := F) c 2 f) : sProp 𝕄) := by
  simp only [scM0_0, owns_whole]
  exact Ring.slots3_split (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_0 fullShare d) := by
  simp only [scM0_0, owns_whole]
  exact Ring.slots3_join (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 5) 0 ∗ semVal ((c : Thread nD τ), SemLoc.dma 6) 0 ∗ semVal ((c : Thread nD τ), SemLoc.dma 7) 0) ∗ hbPt0 c hbM0_0 (V m c main_arg0))
      ⊢ ringAt0_0 c (V m c main_arg0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_arg0) 20
      ⊢ iprop((∃ d, owns (c : Thread nD τ) scM0_0 fullShare d) ∗ (semVal ((c : Thread nD τ), SemLoc.dma 5) 0 ∗ semVal ((c : Thread nD τ), SemLoc.dma 6) 0 ∗ semVal ((c : Thread nD τ), SemLoc.dma 7) 0) ∗ hbPt0 c hbM0_0 (V m c main_arg0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg0)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → ¬cond0_2 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → 1 ≤ t.val ∧ t.val + 2 < 20 ∧ (t.val + 1) = t.val + 1 := by decide +kernel
/-- At the points of case C the ring takes its LAST step. -/
theorem rstep0_0_C : ∀ t : Fin grid0.N, ¬cond0_0 (grid0.coords t) → ¬cond0_1 (grid0.coords t) → ¬cond0_2 (grid0.coords t) → 1 ≤ t.val ∧ 20 ≤ t.val + 2 ∧ t.val < 20 ∧ (t.val + 1) = t.val + 1 := by decide +kernel
/-- At the points of case D the ring takes its LAST step. -/
theorem rstep0_0_D : ∀ t : Fin grid0.N, ¬cond0_0 (grid0.coords t) → ¬cond0_1 (grid0.coords t) → cond0_2 (grid0.coords t) → 1 ≤ t.val ∧ 20 ≤ t.val + 2 ∧ t.val < 20 ∧ (t.val + 1) = t.val + 1 := by decide +kernel
set_option synthInstance.maxSize 4096 in
theorem coff0_0_1 : ∀ t : Fin grid0.N, cond0_0 (grid0.coords t) → cond0_1 (grid0.coords t) → ¬cond0_2 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) (h2 : ¬cond0_2 (grid0.coords t)) :
    (scM0_0.slice (Rect.unit (s := S3x5000x512) ![0, 0, 0] S1x5000x512.size inb_S3x5000x512_S1x5000x512_0_0_0) (fun _ => rfl)).squeeze S5000x512 squeezes_S1x5000x512_S5000x512 = rslot0_0 (Ring.sl 3 t.val) :=
  congrArg (fun M : Memref sig .tc .vmem S1x5000x512 .f32 => M.squeeze S5000x512 squeezes_S1x5000x512_S5000x512) (Memref.slice_unit_congr _ (coff0_0_1 t h0 h1 h2) _ _ (fun _ => rfl) (fun _ => rfl))
set_option synthInstance.maxSize 4096 in
theorem coff0_0_2 : ∀ t : Fin grid0.N, cond0_0 (grid0.coords t) → cond0_1 (grid0.coords t) → ¬cond0_2 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : ¬cond0_2 (grid0.coords t)) :
    (cc0_scratch1.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2) _ _)
set_option synthInstance.maxSize 4096 in
theorem coff0_0_3 : ∀ t : Fin grid0.N, cond0_0 (grid0.coords t) → cond0_1 (grid0.coords t) → ¬cond0_2 (grid0.coords t) → (![0, 0] : Fin 2 → Nat) = ![5000 * (Ring.bk 20 t.val).val, 0] := by decide +kernel
@[sl_canon] theorem canon0_0_3 (t : Fin grid0.N) (h0 : cond0_0 (grid0.coords t)) (h1 : cond0_1 (grid0.coords t)) (h2 : ¬cond0_2 (grid0.coords t)) :
    hbM0_0.slice (Rect.unit (s := S100000x512) ![0, 0] S5000x512.size inb_S100000x512_S5000x512_0_0) (fun _ => rfl) = srcB0_0 (Ring.bk 20 t.val) :=
  congrArg (fun M : Memref sig .tc .hbm S5000x512 .f32 => M) (Memref.slice_unit_congr _ (coff0_0_3 t h0 h1 h2) _ _ (fun _ => rfl) (fun _ => rfl))
set_option synthInstance.maxSize 4096 in
theorem coff0_0_4 : ∀ t : Fin grid0.N, cond0_0 (grid0.coords t) → cond0_1 (grid0.coords t) → ¬cond0_2 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) (h2 : ¬cond0_2 (grid0.coords t)) :
    (scM0_0.slice (Rect.unit (s := S3x5000x512) ![1, 0, 0] S1x5000x512.size inb_S3x5000x512_S1x5000x512_1_0_0) (fun _ => rfl)).squeeze S5000x512 squeezes_S1x5000x512_S5000x512 = rslot0_0 (Ring.sl 3 (t.val + 1)) :=
  congrArg (fun M : Memref sig .tc .vmem S1x5000x512 .f32 => M.squeeze S5000x512 squeezes_S1x5000x512_S5000x512) (Memref.slice_unit_congr _ (coff0_0_4 t h0 h1 h2) _ _ (fun _ => rfl) (fun _ => rfl))
set_option synthInstance.maxSize 4096 in
theorem coff0_0_5 : ∀ t : Fin grid0.N, cond0_0 (grid0.coords t) → cond0_1 (grid0.coords t) → ¬cond0_2 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : ¬cond0_2 (grid0.coords t)) :
    (cc0_scratch1.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2) _ _)
set_option synthInstance.maxSize 4096 in
theorem coff0_0_6 : ∀ t : Fin grid0.N, cond0_0 (grid0.coords t) → cond0_1 (grid0.coords t) → ¬cond0_2 (grid0.coords t) → (![5000, 0] : Fin 2 → Nat) = ![5000 * (Ring.bk 20 (t.val + 1)).val, 0] := by decide +kernel
@[sl_canon] theorem canon0_0_6 (t : Fin grid0.N) (h0 : cond0_0 (grid0.coords t)) (h1 : cond0_1 (grid0.coords t)) (h2 : ¬cond0_2 (grid0.coords t)) :
    hbM0_0.slice (Rect.unit (s := S100000x512) ![5000, 0] S5000x512.size inb_S100000x512_S5000x512_5000_0) (fun _ => rfl) = srcB0_0 (Ring.bk 20 (t.val + 1)) :=
  congrArg (fun M : Memref sig .tc .hbm S5000x512 .f32 => M) (Memref.slice_unit_congr _ (coff0_0_6 t h0 h1 h2) _ _ (fun _ => rfl) (fun _ => rfl))
set_option synthInstance.maxSize 4096 in
theorem coff0_0_7 : ∀ t : Fin grid0.N, k0_off2 (grid0.coords t) = ![(Ring.sl 3 t.val).val, 0, 0] := by decide +kernel
@[sl_canon] theorem canon0_0_7 (t : Fin grid0.N) :
    (scM0_0.slice (Rect.unit (s := S3x5000x512) (k0_off2 (grid0.coords t)) S1x5000x512.size (k0_off2_inb (grid0.coords t))) (fun _ => rfl)).squeeze S5000x512 squeezes_S1x5000x512_S5000x512 = rslot0_0 (Ring.sl 3 t.val) :=
  congrArg (fun M : Memref sig .tc .vmem S1x5000x512 .f32 => M.squeeze S5000x512 squeezes_S1x5000x512_S5000x512) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 t.val).val] := by decide +kernel
@[sl_canon] theorem canon0_0_8 (t : Fin grid0.N) :
    (cc0_scratch1.slice (Rect.unit (s := S3) (k0_off1 (grid0.coords t)) S1.size (k0_off1_inb (grid0.coords t)))).squeeze S_ squeezes_S1_S_ = cellA0_0 (Ring.sl 3 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, k0_off5 (grid0.coords t) = ![(Ring.sl 3 (t.val + 2)).val, 0, 0] := by decide +kernel
@[sl_canon] theorem canon0_0_9 (t : Fin grid0.N) (h1 : cond0_1 (grid0.coords t)) :
    (scM0_0.slice (Rect.unit (s := S3x5000x512) (k0_off5 (grid0.coords t)) S1x5000x512.size (k0_off5_inb (grid0.coords t) h1)) (fun _ => rfl)).squeeze S5000x512 squeezes_S1x5000x512_S5000x512 = rslot0_0 (Ring.sl 3 (t.val + 2)) :=
  congrArg (fun M : Memref sig .tc .vmem S1x5000x512 .f32 => M.squeeze S5000x512 squeezes_S1x5000x512_S5000x512) (Memref.slice_unit_congr _ (coff0_0_9 t ) _ _ (fun _ => rfl) (fun _ => rfl))
set_option synthInstance.maxSize 4096 in
theorem coff0_0_10 : ∀ t : Fin grid0.N, k0_off4 (grid0.coords t) = ![(Ring.sl 3 (t.val + 2)).val] := by decide +kernel
@[sl_canon] theorem canon0_0_10 (t : Fin grid0.N) (h1 : cond0_1 (grid0.coords t)) :
    (cc0_scratch1.slice (Rect.unit (s := S3) (k0_off4 (grid0.coords t)) S1.size (k0_off4_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_10 t ) _ _)
set_option synthInstance.maxSize 4096 in
theorem coff0_0_11 : ∀ t : Fin grid0.N, cond0_0 (grid0.coords t) → cond0_1 (grid0.coords t) → ¬cond0_2 (grid0.coords t) → k0_off6 (grid0.coords t) = ![5000 * (Ring.bk 20 (t.val + 2)).val, 0] := by decide +kernel
@[sl_canon] theorem canon0_0_11 (t : Fin grid0.N) (h0 : cond0_0 (grid0.coords t)) (h1 : cond0_1 (grid0.coords t)) (h2 : ¬cond0_2 (grid0.coords t)) :
    hbM0_0.slice (Rect.unit (s := S100000x512) (k0_off6 (grid0.coords t)) S5000x512.size (k0_off6_inb (grid0.coords t) h1)) (fun _ => rfl) = srcB0_0 (Ring.bk 20 (t.val + 2)) :=
  congrArg (fun M : Memref sig .tc .hbm S5000x512 .f32 => M) (Memref.slice_unit_congr _ (coff0_0_11 t h0 h1 h2) _ _ (fun _ => rfl) (fun _ => rfl))
set_option synthInstance.maxSize 4096 in
theorem coff0_0_12 : ∀ t : Fin grid0.N, ¬cond0_0 (grid0.coords t) → cond0_1 (grid0.coords t) → ¬cond0_2 (grid0.coords t) → k0_off6 (grid0.coords t) = ![5000 * (Ring.bk 20 (t.val + 2)).val, 0] := by decide +kernel
@[sl_canon] theorem canon0_0_12 (t : Fin grid0.N) (h0 : ¬cond0_0 (grid0.coords t)) (h1 : cond0_1 (grid0.coords t)) (h2 : ¬cond0_2 (grid0.coords t)) :
    hbM0_0.slice (Rect.unit (s := S100000x512) (k0_off6 (grid0.coords t)) S5000x512.size (k0_off6_inb (grid0.coords t) h1)) (fun _ => rfl) = srcB0_0 (Ring.bk 20 (t.val + 2)) :=
  congrArg (fun M : Memref sig .tc .hbm S5000x512 .f32 => M) (Memref.slice_unit_congr _ (coff0_0_12 t h0 h1 h2) _ _ (fun _ => rfl) (fun _ => rfl))
set_option synthInstance.maxSize 4096 in
theorem coff0_0_13 : ∀ t : Fin grid0.N, k0_off7 (grid0.coords t) = ![(Ring.sl 3 t.val).val, 0, 0] := by decide +kernel
/-- The ring-memref load's box in the slot's spelling (the block this step waited). -/
instance (priority := high) closedOff0_0_13 (t : Fin grid0.N) : ClosedOff (k0_off7 (grid0.coords t)) := ⟨![(Ring.sl 3 t.val).val, 0, 0], coff0_0_13 t⟩
end Canon0_0

end Cert.KernelIdeal.Pool

end
-- ==== Proof.Step.lean ====
/-
  One step of the kernel as a function of the block of `x` it reads and of what the carried scratches hold.
-/
module

public import proofs.«01_k».proof.Proof.Ring
public import Idealize.ShloMosaic.Lib.VecWindow

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Block `b` of the array `x`: its rows `5000 b` to `5000 b + 4999`, with the leading axis of one that a slot of the ring has. -/
def xblk (c : Dev nD) (W : HbBuf0 (F := F) c hbM0_0) (b : Fin 20) : Vec F S1x5000x512 .f32 :=
  shapeCast S1x5000x512 (s := S5000x512) ((srcB0_0 b).view.read (Elt F) W) shapeCasts_S1x5000x512_S5000x512.symm

/-- A whole-slice piece stored through a reshape of a slice, loaded back at the slice: the payload, reshaped. -/
theorem readAt_reshaped {κ : Kind} {sp : Space} {s s' : Shape} {e : EltTy} {Val : EltTy → Type} (v : View sig κ sp s e) (r : Rect s)
    (hn : s'.numel = r.shape.numel) (hc : s'.ShapeCasts r.shape) (g : v.ty.Contents Val) (X : s'.Idx → Val e) :
    View.readAt Val v r.toLoadRect (((v.slice r).reshape s' hn).writes Val g [⟨Rect.whole s', X⟩]) = shapeCast r.shape X hc := by
  funext i
  have h := congrFun (View.read_writes_whole ((v.slice r).reshape s' hn) g X) (Shape.reshapeEquiv hc i)
  have e2 : ∀ f : v.ty.Contents Val, ((v.slice r).reshape s' hn).read Val f (Shape.reshapeEquiv hc i)
      = (v.slice r).read Val f (Shape.reshapeEquiv hn (Shape.reshapeEquiv hc i)) := fun _ => rfl
  rw [e2, Shape.reshapeEquiv_reshapeEquiv, Shape.reshapeEquiv_self] at h
  exact h

/-- A load of a whole slot into which a block has landed reads that block, with a leading axis of one. -/
theorem readAt_landed (c : Dev nD) (W : HbBuf0 (F := F) c hbM0_0) (s : Fin 3) (b : Fin 20) (off : Fin 3 → Nat) (hoff : off = ![s.val, 0, 0])
    (inb : ∀ a, off a + S1x5000x512.size a ≤ S3x5000x512.size a) (g : HbBuf0 (F := F) c (rslot0_0 s)) :
    View.readAt (Elt F) scM0_0.view (Rect.unit (s := S3x5000x512) off S1x5000x512.size inb).toLoadRect (landed0_0 c W s b g) = xblk c W b := by
  subst hoff
  exact readAt_reshaped scM0_0.view (Rect.unit (s := S3x5000x512) ![s.val, 0, 0] S1x5000x512.size (inb_slot0_0 s)) squeezes_S1x5000x512_S5000x512.numel_eq
    shapeCasts_S1x5000x512_S5000x512.symm g _

/-- The masked-out gate, `-inf`. -/
abbrev ninf : F .bf16 := FloatOps.ofBits .bf16 0xFF80#16

/-- One step's new running maximum of each graph. -/
def newM (xb : Vec F S1x5000x512 .f32) (ids : Vec F S1x1x5000 .i32) (w : Vec F S1x512 .f32) (b : Vec F S1x1 .f32) (sm : Vec F S128x1 .f32) : Vec F S128x1 .f32 :=
  k0_pay11 (k0_pay7 ids) ninf (k0_pay9 xb w b) sm

/-- One step's new running denominator of each graph. -/
def newS (xb : Vec F S1x5000x512 .f32) (ids : Vec F S1x1x5000 .i32) (w : Vec F S1x512 .f32) (b : Vec F S1x1 .f32) (sm ss : Vec F S128x1 .f32) : Vec F S128x1 .f32 :=
  k0_pay14 (k0_pay7 ids) (k0_pay8 xb w b) ninf (k0_pay9 xb w b) sm ss

/-- One step's new running numerator of each graph. -/
def newA (xb : Vec F S1x5000x512 .f32) (ids : Vec F S1x1x5000 .i32) (w : Vec F S1x512 .f32) (b : Vec F S1x1 .f32) (sm : Vec F S128x1 .f32) (sa : Vec F S128x512 .f32) : Vec F S128x512 .f32 :=
  k0_pay1 (k0_pay6 xb) (k0_pay12 (k0_pay7 ids) ninf (k0_pay9 xb w b) sm) (k0_pay13 (k0_pay7 ids) (k0_pay8 xb w b) ninf (k0_pay9 xb w b) sm)
    (constant S128x512 .f32 0x00000000#32) sa

/-- A load of a whole memref that holds `x` reads `x`. -/
theorem readAt_unread {κ : Kind} {sp : Space} {s : Shape} {e : EltTy} {Val : EltTy → Type} (a : Memref sig κ sp s e) (h : a.IsWhole) (x : s.Idx → Val e)
    (off : Fin s.rank → Nat) (inb : ∀ a, off a + s.size a ≤ s.size a) :
    View.readAt Val a.view (Rect.unit off s.size inb).toLoadRect (h.unread x) = x :=
  (View.readAt_full _ _ inb).trans (h.read_unread x)

end Cert.KernelIdeal.Pool

end
-- ==== Proof.RunA.lean ====
/-
  The run of the body at point 0.
-/
module

public import proofs.«01_k».proof.Proof.Step
public import Idealize.ShloMosaic.Lib.VecWindow

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the first point: it resets the three carried scratches, starts blocks 0 and 1 and then, once block 0 has landed, block 2,
    and leaves the scratches at the step's values of the reset ones. -/
theorem kernelRun0_A (c : Dev nD) (t : Fin cfg0.N) (arg2 : Memref sig .tc .vmem S1x1x5000 .i32) (harg2 : arg2.IsWhole) (arg3 : Memref sig .tc .vmem S1x512 .f32) (harg3 : arg3.IsWhole) (arg4 : Memref sig .tc .vmem S1x1 .f32) (harg4 : arg4.IsWhole) (arg5 : Memref sig .tc .vmem S128x512 .f32) (harg5 : arg5.IsWhole) (arg8 : Memref sig .tc .vmem S128x1 .f32) (harg8 : arg8.IsWhole) (arg9 : Memref sig .tc .vmem S128x1 .f32) (harg9 : arg9.IsWhole) (arg10 : Memref sig .tc .vmem S128x512 .f32) (harg10 : arg10.IsWhole) (hc0 : cond0_0 (grid0.coords t)) (hc1 : cond0_1 (grid0.coords t)) (hc2 : ¬cond0_2 (grid0.coords t))
    (x0 : Vec F S1x1x5000 .i32) (x1 : Vec F S1x512 .f32) (x2 : Vec F S1x1 .f32) (d5 : Vec F S128x512 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d5 ∗ (∃ d, owns (c : Thread nD τ) arg8 fullShare d) ∗ (∃ d, owns (c : Thread nD τ) arg9 fullShare d) ∗ (∃ d, owns (c : Thread nD τ) arg10 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg8 fullShare (newM (xblk c fh0 (Ring.bk 20 t.val)) x0 x1 x2 k0_pay3) ∗ owns (c : Thread nD τ) arg9 fullShare (newS (xblk c fh0 (Ring.bk 20 t.val)) x0 x1 x2 k0_pay3 k0_pay4) ∗ owns (c : Thread nD τ) arg10 fullShare (newA (xblk c fh0 (Ring.bk 20 t.val)) x0 x1 x2 k0_pay3 k0_pay5) ∗ Ring.inflight (flightW0_0 c fh0) (Ring.sl 3 (t.val + 1)) (Ring.bk 20 (t.val + 1)) ∗ Ring.inflight (flightW0_0 c fh0) (Ring.sl 3 (t.val + 2)) (Ring.bk 20 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__att_pool_kernel (grid0.coords t) (Memref.whole main_arg0) (Memref.isWhole_whole _) arg2 harg2 arg3 harg3 arg4 harg4 arg5 harg5 scM0_0 (Memref.isWhole_whole _) cc0_scratch1 arg8 harg8 arg9 harg9 arg10 harg10) K := by
    intro W K
    haveI : Fact (cond0_0 (grid0.coords t)) := ⟨hc0⟩
    haveI : Fact (cond0_1 (grid0.coords t)) := ⟨hc1⟩
    haveI : Fact (¬cond0_2 (grid0.coords t)) := ⟨hc2⟩
    simp only [cc0__att_pool_kernel_eq_skeleton]; unfold cc0__att_pool_kernel_skel
    simp only [k0_part1_eq_skeleton, k0_part2_eq_skeleton]
    have hcanon0 := canon0_0_1 t hc0 hc1 hc2
    have hcanon1 := canon0_0_2 t hc0 hc1 hc2
    have hcanon2 := canon0_0_3 t hc0 hc1 hc2
    have hcanon3 := canon0_0_4 t hc0 hc1 hc2
    have hcanon4 := canon0_0_5 t hc0 hc1 hc2
    have hcanon5 := canon0_0_6 t hc0 hc1 hc2
    unfold owns Ring.free Ring.inflight
    iintro ⟨⟨%f0, %hf0, H0⟩, ⟨%f1, %hf1, H1⟩, ⟨%f2, %hf2, H2⟩, ⟨%f3, %hf3, H3⟩, ⟨%ds1, %fs1, -, HS1⟩, ⟨%ds2, %fs2, -, HS2⟩, ⟨%ds3, %fs3, -, HS3⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
    ihave Hsp0_0_0 := (src0_0_split c fh0 (Ring.sl 3 t.val) (Ring.bk 20 t.val)).1 $$ Hw0_0_0
    icases Hsp0_0_0 with ⟨Hh0_0_0, Hr0_0_0⟩
    ihave Hsp0_0_1 := (src0_0_split c fh0 (Ring.sl 3 (t.val + 1)) (Ring.bk 20 (t.val + 1))).1 $$ Hw0_0_1
    icases Hsp0_0_1 with ⟨Hh0_0_1, Hr0_0_1⟩
    ihave Hsp0_0_2 := (src0_0_split c fh0 (Ring.sl 3 (t.val + 2)) (Ring.bk 20 (t.val + 2))).1 $$ Hw0_0_2
    icases Hsp0_0_2 with ⟨Hh0_0_2, Hr0_0_2⟩
    obtain rfl := harg2.eq_unread hf0; obtain rfl := harg3.eq_unread hf1; obtain rfl := harg4.eq_unread hf2
    sl_exec (disch := first | sl_exact hc0 | sl_exact hc1 | sl_exact hc2)
    sl_step
    have e15 : kernelRun0_A.sl.v15 c t fh0 = xblk c fh0 (Ring.bk 20 t.val) := readAt_landed c fh0 _ _ _ (coff0_0_13 t) _ _
    have r2 := readAt_unread (Val := Elt F) arg2 harg2 x0 _ inb_S1x1x5000_S1x1x5000_0_0_0
    have r3 := readAt_unread (Val := Elt F) arg3 harg3 x1 _ inb_S1x512_S1x512_0_0
    have r4 := readAt_unread (Val := Elt F) arg4 harg4 x2 _ inb_S1x1_S1x1_0_0
    have e8 : kernelRun0_A.sl.v39 (F := F) c arg8 = k0_pay3 := View.readCov_full _ _ _ _ _
    have e9 : kernelRun0_A.sl.v70 (F := F) c arg9 = k0_pay4 := View.readCov_full _ _ _ _ _
    have e10 : kernelRun0_A.sl.v77 (F := F) c arg10 = k0_pay5 := View.readCov_full _ _ _ _ _
    have e0 : kernelRun0_A.sl.r c t fh0 = k0_pay6 (xblk c fh0 (Ring.bk 20 t.val)) := congrArg _ e15
    have e1 : kernelRun0_A.sl.r_1 c arg2 harg2 x0 = k0_pay7 x0 := congrArg k0_pay7 r2
    have e2 : kernelRun0_A.sl.r_2 c t arg3 harg3 arg4 harg4 x1 x2 fh0 = k0_pay8 (xblk c fh0 (Ring.bk 20 t.val)) x1 x2 := congr (congrArg₂ k0_pay8 e15 r3) r4
    have e3 : kernelRun0_A.sl.r_3 c t arg3 harg3 arg4 harg4 x1 x2 fh0 = k0_pay9 (xblk c fh0 (Ring.bk 20 t.val)) x1 x2 := congr (congrArg₂ k0_pay9 e15 r3) r4
    have e4 : kernelRun0_A.sl.r_4 c t arg2 harg2 arg3 harg3 arg4 harg4 arg8 x0 x1 x2 fh0 = k0_pay12 (k0_pay7 x0) ninf (k0_pay9 (xblk c fh0 (Ring.bk 20 t.val)) x1 x2) k0_pay3 := by
      delta kernelRun0_A.sl.r_4; rw [e1, e3, e8]; rfl
    have e5 : kernelRun0_A.sl.r_5 c t arg2 harg2 arg3 harg3 arg4 harg4 arg8 x0 x1 x2 fh0
        = k0_pay13 (k0_pay7 x0) (k0_pay8 (xblk c fh0 (Ring.bk 20 t.val)) x1 x2) ninf (k0_pay9 (xblk c fh0 (Ring.bk 20 t.val)) x1 x2) k0_pay3 := by
      delta kernelRun0_A.sl.r_5; rw [e1, e2, e3, e8]; rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact hf3
    isplitl [HS1]
    · iexists _; isplitr; swap; · iexact HS1
      ipureintro
      exact (View.read_writes_full _ _ _ _ _).trans (by rw [e1, e3, e8]; rfl)
    isplitl [HS2]
    · iexists _; isplitr; swap; · iexact HS2
      ipureintro
      exact (View.read_writes_full _ _ _ _ _).trans (by rw [e1, e2, e3, e8, e9]; rfl)
    isplitl [HS3]
    · iexists _; isplitr; swap; · iexact HS3
      ipureintro
      exact (View.read_writes_full _ _ _ _ _).trans (by rw [e0, e4, e5, e10]; rfl)
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 20 t.val)).2; isplitl [Hh0_0_0]; · iexact Hh0_0_0
      iexact Hr0_0_0
    iexists _; iexact HW

end Cert.KernelIdeal.Pool

end
-- ==== Proof.RunB.lean ====
/-
  The run of the body at the points 1 to 17.
-/
module

public import proofs.«01_k».proof.Proof.Step
public import Idealize.ShloMosaic.Lib.VecWindow

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- The body at the points 1 to 17: it waits its own block of `x`, starts the block two ahead, and leaves the three carried
    scratches at the step's values of what they held. -/
theorem kernelRun0_B (c : Dev nD) (t : Fin cfg0.N) (arg2 : Memref sig .tc .vmem S1x1x5000 .i32) (harg2 : arg2.IsWhole) (arg3 : Memref sig .tc .vmem S1x512 .f32) (harg3 : arg3.IsWhole) (arg4 : Memref sig .tc .vmem S1x1 .f32) (harg4 : arg4.IsWhole) (arg5 : Memref sig .tc .vmem S128x512 .f32) (harg5 : arg5.IsWhole) (arg8 : Memref sig .tc .vmem S128x1 .f32) (harg8 : arg8.IsWhole) (arg9 : Memref sig .tc .vmem S128x1 .f32) (harg9 : arg9.IsWhole) (arg10 : Memref sig .tc .vmem S128x512 .f32) (harg10 : arg10.IsWhole) (hc0 : ¬cond0_0 (grid0.coords t)) (hc1 : cond0_1 (grid0.coords t)) (hc2 : ¬cond0_2 (grid0.coords t))
    (x0 : Vec F S1x1x5000 .i32) (x1 : Vec F S1x512 .f32) (x2 : Vec F S1x1 .f32) (d5 : Vec F S128x512 .f32) (fh0 : HbBuf0 (F := F) c hbM0_0) (sm ss : Vec F S128x1 .f32) (sa : Vec F S128x512 .f32) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg8 fullShare sm ∗ owns (c : Thread nD τ) arg9 fullShare ss ∗ owns (c : Thread nD τ) arg10 fullShare sa ∗ Ring.inflight (flightW0_0 c fh0) (Ring.sl 3 t.val) (Ring.bk 20 t.val) ∗ Ring.inflight (flightW0_0 c fh0) (Ring.sl 3 (t.val + 1)) (Ring.bk 20 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg8 fullShare (newM (xblk c fh0 (Ring.bk 20 t.val)) x0 x1 x2 sm) ∗ owns (c : Thread nD τ) arg9 fullShare (newS (xblk c fh0 (Ring.bk 20 t.val)) x0 x1 x2 sm ss) ∗ owns (c : Thread nD τ) arg10 fullShare (newA (xblk c fh0 (Ring.bk 20 t.val)) x0 x1 x2 sm sa) ∗ Ring.inflight (flightW0_0 c fh0) (Ring.sl 3 (t.val + 1)) (Ring.bk 20 (t.val + 1)) ∗ Ring.inflight (flightW0_0 c fh0) (Ring.sl 3 (t.val + 2)) (Ring.bk 20 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__att_pool_kernel (grid0.coords t) (Memref.whole main_arg0) (Memref.isWhole_whole _) arg2 harg2 arg3 harg3 arg4 harg4 arg5 harg5 scM0_0 (Memref.isWhole_whole _) cc0_scratch1 arg8 harg8 arg9 harg9 arg10 harg10) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    simp only [cc0__att_pool_kernel_eq_skeleton]; unfold cc0__att_pool_kernel_skel
    simp only [k0_part1_eq_skeleton, k0_part2_eq_skeleton]
    unfold owns Ring.free Ring.inflight
    iintro ⟨⟨%f0, %hf0, H0⟩, ⟨%f1, %hf1, H1⟩, ⟨%f2, %hf2, H2⟩, ⟨%f3, %hf3, H3⟩, ⟨%fs1, %hs1, HS1⟩, ⟨%fs2, %hs2, HS2⟩, ⟨%fs3, %hs3, HS3⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh0 (Ring.sl 3 (t.val + 2)) (Ring.bk 20 (t.val + 2))).1 $$ Hw0_0_2
    icases Hsp0_0_2 with ⟨Hh0_0_2, Hr0_0_2⟩
    obtain rfl := harg2.eq_unread hf0; obtain rfl := harg3.eq_unread hf1; obtain rfl := harg4.eq_unread hf2
    obtain rfl := harg8.eq_unread hs1; obtain rfl := harg9.eq_unread hs2; obtain rfl := harg10.eq_unread hs3
    sl_exec (disch := first | sl_exact hc0 | sl_exact hc1 | sl_exact hc2)
    sl_step
    have e15 : kernelRun0_B.sl.v15 c t fh0 = xblk c fh0 (Ring.bk 20 t.val) := readAt_landed c fh0 _ _ _ (coff0_0_13 t) _ _
    have r2 := readAt_unread (Val := Elt F) arg2 harg2 x0 _ inb_S1x1x5000_S1x1x5000_0_0_0
    have r3 := readAt_unread (Val := Elt F) arg3 harg3 x1 _ inb_S1x512_S1x512_0_0
    have r4 := readAt_unread (Val := Elt F) arg4 harg4 x2 _ inb_S1x1_S1x1_0_0
    have e8 := readAt_unread (Val := Elt F) arg8 harg8 sm _ inb_S128x1_S128x1_0_0
    have e9 := readAt_unread (Val := Elt F) arg9 harg9 ss _ inb_S128x1_S128x1_0_0
    have e10 := readAt_unread (Val := Elt F) arg10 harg10 sa _ inb_S128x512_S128x512_0_0
    have e0 : kernelRun0_B.sl.r c t fh0 = k0_pay6 (xblk c fh0 (Ring.bk 20 t.val)) := congrArg _ e15
    have e1 : kernelRun0_B.sl.r_1 c arg2 harg2 x0 = k0_pay7 x0 := congrArg k0_pay7 r2
    have e2 : kernelRun0_B.sl.r_2 c t arg3 harg3 arg4 harg4 x1 x2 fh0 = k0_pay8 (xblk c fh0 (Ring.bk 20 t.val)) x1 x2 := congr (congrArg₂ k0_pay8 e15 r3) r4
    have e3 : kernelRun0_B.sl.r_3 c t arg3 harg3 arg4 harg4 x1 x2 fh0 = k0_pay9 (xblk c fh0 (Ring.bk 20 t.val)) x1 x2 := congr (congrArg₂ k0_pay9 e15 r3) r4
    have e4 : kernelRun0_B.sl.r_4 c t arg2 harg2 arg3 harg3 arg4 harg4 arg8 harg8 x0 x1 x2 fh0 sm = k0_pay12 (k0_pay7 x0) ninf (k0_pay9 (xblk c fh0 (Ring.bk 20 t.val)) x1 x2) sm := by
      delta kernelRun0_B.sl.r_4; rw [e1, e3, e8]; rfl
    have e5 : kernelRun0_B.sl.r_5 c t arg2 harg2 arg3 harg3 arg4 harg4 arg8 harg8 x0 x1 x2 fh0 sm
        = k0_pay13 (k0_pay7 x0) (k0_pay8 (xblk c fh0 (Ring.bk 20 t.val)) x1 x2) ninf (k0_pay9 (xblk c fh0 (Ring.bk 20 t.val)) x1 x2) sm := by
      delta kernelRun0_B.sl.r_5; rw [e1, e2, e3, e8]; rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact hf3
    isplitl [HS1]
    · iexists _; isplitr; swap; · iexact HS1
      ipureintro
      exact (View.read_writes_full _ _ _ _ _).trans (congr (congrArg₂ (fun a b => k0_pay11 a ninf b) e1 e3) e8)
    isplitl [HS2]
    · iexists _; isplitr; swap; · iexact HS2
      ipureintro
      exact (View.read_writes_full _ _ _ _ _).trans (by rw [e1, e2, e3, e8, e9]; rfl)
    isplitl [HS3]
    · iexists _; isplitr; swap; · iexact HS3
      ipureintro
      exact (View.read_writes_full _ _ _ _ _).trans (by rw [e0, e4, e5, e10]; rfl)
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    iexists _; iexact HW

end Cert.KernelIdeal.Pool

end
-- ==== Proof.RunC.lean ====
/-
  The run of the body at point 18.
-/
module

public import proofs.«01_k».proof.Proof.Step
public import Idealize.ShloMosaic.Lib.VecWindow

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- The body at point 18: it waits its own block of `x`, starts no other, and leaves the three carried scratches at the step's values of
    what they held. -/
theorem kernelRun0_C (c : Dev nD) (t : Fin cfg0.N) (arg2 : Memref sig .tc .vmem S1x1x5000 .i32) (harg2 : arg2.IsWhole) (arg3 : Memref sig .tc .vmem S1x512 .f32) (harg3 : arg3.IsWhole) (arg4 : Memref sig .tc .vmem S1x1 .f32) (harg4 : arg4.IsWhole) (arg5 : Memref sig .tc .vmem S128x512 .f32) (harg5 : arg5.IsWhole) (arg8 : Memref sig .tc .vmem S128x1 .f32) (harg8 : arg8.IsWhole) (arg9 : Memref sig .tc .vmem S128x1 .f32) (harg9 : arg9.IsWhole) (arg10 : Memref sig .tc .vmem S128x512 .f32) (harg10 : arg10.IsWhole) (hc0 : ¬cond0_0 (grid0.coords t)) (hc1 : ¬cond0_1 (grid0.coords t)) (hc2 : ¬cond0_2 (grid0.coords t))
    (x0 : Vec F S1x1x5000 .i32) (x1 : Vec F S1x512 .f32) (x2 : Vec F S1x1 .f32) (d5 : Vec F S128x512 .f32) (fh0 : HbBuf0 (F := F) c hbM0_0) (sm ss : Vec F S128x1 .f32) (sa : Vec F S128x512 .f32) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg8 fullShare sm ∗ owns (c : Thread nD τ) arg9 fullShare ss ∗ owns (c : Thread nD τ) arg10 fullShare sa ∗ Ring.inflight (flightW0_0 c fh0) (Ring.sl 3 t.val) (Ring.bk 20 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg8 fullShare (newM (xblk c fh0 (Ring.bk 20 t.val)) x0 x1 x2 sm) ∗ owns (c : Thread nD τ) arg9 fullShare (newS (xblk c fh0 (Ring.bk 20 t.val)) x0 x1 x2 sm ss) ∗ owns (c : Thread nD τ) arg10 fullShare (newA (xblk c fh0 (Ring.bk 20 t.val)) x0 x1 x2 sm sa) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__att_pool_kernel (grid0.coords t) (Memref.whole main_arg0) (Memref.isWhole_whole _) arg2 harg2 arg3 harg3 arg4 harg4 arg5 harg5 scM0_0 (Memref.isWhole_whole _) cc0_scratch1 arg8 harg8 arg9 harg9 arg10 harg10) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0__att_pool_kernel_eq_skeleton]; unfold cc0__att_pool_kernel_skel
    simp only [k0_part1_eq_skeleton, k0_part2_eq_skeleton]
    unfold owns Ring.free Ring.inflight
    iintro ⟨⟨%f0, %hf0, H0⟩, ⟨%f1, %hf1, H1⟩, ⟨%f2, %hf2, H2⟩, ⟨%f3, %hf3, H3⟩, ⟨%fs1, %hs1, HS1⟩, ⟨%fs2, %hs2, HS2⟩, ⟨%fs3, %hs3, HS3⟩, ⟨%ff0_0_0, Hf0_0_0, Hrf0_0_0⟩, Hro0_0_1, ⟨Hc0_0_2, ⟨%fs0_0_2, Hs0_0_2, Hw0_0_2⟩⟩, HW, Hk⟩
    obtain rfl := harg2.eq_unread hf0; obtain rfl := harg3.eq_unread hf1; obtain rfl := harg4.eq_unread hf2
    obtain rfl := harg8.eq_unread hs1; obtain rfl := harg9.eq_unread hs2; obtain rfl := harg10.eq_unread hs3
    sl_exec (disch := first | sl_exact hc0 | sl_exact hc1 | sl_exact hc2)
    sl_step
    have e15 : kernelRun0_C.sl.v15 c t fh0 = xblk c fh0 (Ring.bk 20 t.val) := readAt_landed c fh0 _ _ _ (coff0_0_13 t) _ _
    have r2 := readAt_unread (Val := Elt F) arg2 harg2 x0 _ inb_S1x1x5000_S1x1x5000_0_0_0
    have r3 := readAt_unread (Val := Elt F) arg3 harg3 x1 _ inb_S1x512_S1x512_0_0
    have r4 := readAt_unread (Val := Elt F) arg4 harg4 x2 _ inb_S1x1_S1x1_0_0
    have e8 := readAt_unread (Val := Elt F) arg8 harg8 sm _ inb_S128x1_S128x1_0_0
    have e9 := readAt_unread (Val := Elt F) arg9 harg9 ss _ inb_S128x1_S128x1_0_0
    have e10 := readAt_unread (Val := Elt F) arg10 harg10 sa _ inb_S128x512_S128x512_0_0
    have e0 : kernelRun0_C.sl.r c t fh0 = k0_pay6 (xblk c fh0 (Ring.bk 20 t.val)) := congrArg _ e15
    have e1 : kernelRun0_C.sl.r_1 c arg2 harg2 x0 = k0_pay7 x0 := congrArg k0_pay7 r2
    have e2 : kernelRun0_C.sl.r_2 c t arg3 harg3 arg4 harg4 x1 x2 fh0 = k0_pay8 (xblk c fh0 (Ring.bk 20 t.val)) x1 x2 := congr (congrArg₂ k0_pay8 e15 r3) r4
    have e3 : kernelRun0_C.sl.r_3 c t arg3 harg3 arg4 harg4 x1 x2 fh0 = k0_pay9 (xblk c fh0 (Ring.bk 20 t.val)) x1 x2 := congr (congrArg₂ k0_pay9 e15 r3) r4
    have e4 : kernelRun0_C.sl.r_4 c t arg2 harg2 arg3 harg3 arg4 harg4 arg8 harg8 x0 x1 x2 fh0 sm = k0_pay12 (k0_pay7 x0) ninf (k0_pay9 (xblk c fh0 (Ring.bk 20 t.val)) x1 x2) sm := by
      delta kernelRun0_C.sl.r_4; rw [e1, e3, e8]; rfl
    have e5 : kernelRun0_C.sl.r_5 c t arg2 harg2 arg3 harg3 arg4 harg4 arg8 harg8 x0 x1 x2 fh0 sm
        = k0_pay13 (k0_pay7 x0) (k0_pay8 (xblk c fh0 (Ring.bk 20 t.val)) x1 x2) ninf (k0_pay9 (xblk c fh0 (Ring.bk 20 t.val)) x1 x2) sm := by
      delta kernelRun0_C.sl.r_5; rw [e1, e2, e3, e8]; rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact hf3
    isplitl [HS1]
    · iexists _; isplitr; swap; · iexact HS1
      ipureintro
      exact (View.read_writes_full _ _ _ _ _).trans (by rw [e1, e3, e8]; rfl)
    isplitl [HS2]
    · iexists _; isplitr; swap; · iexact HS2
      ipureintro
      exact (View.read_writes_full _ _ _ _ _).trans (by rw [e1, e2, e3, e8, e9]; rfl)
    isplitl [HS3]
    · iexists _; isplitr; swap; · iexact HS3
      ipureintro
      exact (View.read_writes_full _ _ _ _ _).trans (by rw [e0, e4, e5, e10]; rfl)
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    iexists _; iexact HW

end Cert.KernelIdeal.Pool

end
-- ==== Proof.RunD.lean ====
/-
  The run of the body at point 19.
-/
module

public import proofs.«01_k».proof.Proof.Step
public import Idealize.ShloMosaic.Lib.VecWindow

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1200000 in
/-- The body at the last point: it waits its own block of `x`, leaves the three carried scratches at the step's values of what they held,
    and the output at the quotient of the last two, zero where the denominator is not above zero. -/
theorem kernelRun0_D (c : Dev nD) (t : Fin cfg0.N) (arg2 : Memref sig .tc .vmem S1x1x5000 .i32) (harg2 : arg2.IsWhole) (arg3 : Memref sig .tc .vmem S1x512 .f32) (harg3 : arg3.IsWhole) (arg4 : Memref sig .tc .vmem S1x1 .f32) (harg4 : arg4.IsWhole) (arg5 : Memref sig .tc .vmem S128x512 .f32) (harg5 : arg5.IsWhole) (arg8 : Memref sig .tc .vmem S128x1 .f32) (harg8 : arg8.IsWhole) (arg9 : Memref sig .tc .vmem S128x1 .f32) (harg9 : arg9.IsWhole) (arg10 : Memref sig .tc .vmem S128x512 .f32) (harg10 : arg10.IsWhole) (hc0 : ¬cond0_0 (grid0.coords t)) (hc1 : ¬cond0_1 (grid0.coords t)) (hc2 : cond0_2 (grid0.coords t))
    (x0 : Vec F S1x1x5000 .i32) (x1 : Vec F S1x512 .f32) (x2 : Vec F S1x1 .f32) (fh0 : HbBuf0 (F := F) c hbM0_0) (sm ss : Vec F S128x1 .f32) (sa : Vec F S128x512 .f32) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg8 fullShare sm ∗ owns (c : Thread nD τ) arg9 fullShare ss ∗ owns (c : Thread nD τ) arg10 fullShare sa ∗ Ring.inflight (flightW0_0 c fh0) (Ring.sl 3 t.val) (Ring.bk 20 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (k0_pay2 (newS (xblk c fh0 (Ring.bk 20 t.val)) x0 x1 x2 sm ss) (newA (xblk c fh0 (Ring.bk 20 t.val)) x0 x1 x2 sm sa)) ∗ owns (c : Thread nD τ) arg8 fullShare (newM (xblk c fh0 (Ring.bk 20 t.val)) x0 x1 x2 sm) ∗ owns (c : Thread nD τ) arg9 fullShare (newS (xblk c fh0 (Ring.bk 20 t.val)) x0 x1 x2 sm ss) ∗ owns (c : Thread nD τ) arg10 fullShare (newA (xblk c fh0 (Ring.bk 20 t.val)) x0 x1 x2 sm sa) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__att_pool_kernel (grid0.coords t) (Memref.whole main_arg0) (Memref.isWhole_whole _) arg2 harg2 arg3 harg3 arg4 harg4 arg5 harg5 scM0_0 (Memref.isWhole_whole _) cc0_scratch1 arg8 harg8 arg9 harg9 arg10 harg10) K := by
    intro W K
    haveI : Fact (¬cond0_0 (grid0.coords t)) := ⟨hc0⟩
    haveI : Fact (¬cond0_1 (grid0.coords t)) := ⟨hc1⟩
    haveI : Fact (cond0_2 (grid0.coords t)) := ⟨hc2⟩
    simp only [cc0__att_pool_kernel_eq_skeleton]; unfold cc0__att_pool_kernel_skel
    simp only [k0_part1_eq_skeleton, k0_part2_eq_skeleton]
    unfold owns Ring.free Ring.inflight
    iintro ⟨⟨%f0, %hf0, H0⟩, ⟨%f1, %hf1, H1⟩, ⟨%f2, %hf2, H2⟩, ⟨%d3, %f3, -, H3⟩, ⟨%fs1, %hs1, HS1⟩, ⟨%fs2, %hs2, HS2⟩, ⟨%fs3, %hs3, HS3⟩, ⟨%ff0_0_0, Hf0_0_0, Hrf0_0_0⟩, Hro0_0_1, ⟨Hc0_0_2, ⟨%fs0_0_2, Hs0_0_2, Hw0_0_2⟩⟩, HW, Hk⟩
    obtain rfl := harg2.eq_unread hf0; obtain rfl := harg3.eq_unread hf1; obtain rfl := harg4.eq_unread hf2
    obtain rfl := harg8.eq_unread hs1; obtain rfl := harg9.eq_unread hs2; obtain rfl := harg10.eq_unread hs3
    sl_exec (disch := first | sl_exact hc0 | sl_exact hc1 | sl_exact hc2)
    sl_step
    have e15 : kernelRun0_D.sl.v15 c t fh0 = xblk c fh0 (Ring.bk 20 t.val) := readAt_landed c fh0 _ _ _ (coff0_0_13 t) _ _
    have r2 := readAt_unread (Val := Elt F) arg2 harg2 x0 _ inb_S1x1x5000_S1x1x5000_0_0_0
    have r3 := readAt_unread (Val := Elt F) arg3 harg3 x1 _ inb_S1x512_S1x512_0_0
    have r4 := readAt_unread (Val := Elt F) arg4 harg4 x2 _ inb_S1x1_S1x1_0_0
    have e8 := readAt_unread (Val := Elt F) arg8 harg8 sm _ inb_S128x1_S128x1_0_0
    have e9 := readAt_unread (Val := Elt F) arg9 harg9 ss _ inb_S128x1_S128x1_0_0
    have e10 := readAt_unread (Val := Elt F) arg10 harg10 sa _ inb_S128x512_S128x512_0_0
    have e0 : kernelRun0_D.sl.r c t fh0 = k0_pay6 (xblk c fh0 (Ring.bk 20 t.val)) := congrArg _ e15
    have e1 : kernelRun0_D.sl.r_1 c arg2 harg2 x0 = k0_pay7 x0 := congrArg k0_pay7 r2
    have e2 : kernelRun0_D.sl.r_2 c t arg3 harg3 arg4 harg4 x1 x2 fh0 = k0_pay8 (xblk c fh0 (Ring.bk 20 t.val)) x1 x2 := congr (congrArg₂ k0_pay8 e15 r3) r4
    have e3 : kernelRun0_D.sl.r_3 c t arg3 harg3 arg4 harg4 x1 x2 fh0 = k0_pay9 (xblk c fh0 (Ring.bk 20 t.val)) x1 x2 := congr (congrArg₂ k0_pay9 e15 r3) r4
    have e4 : kernelRun0_D.sl.r_4 c t arg2 harg2 arg3 harg3 arg4 harg4 arg8 harg8 x0 x1 x2 fh0 sm = k0_pay12 (k0_pay7 x0) ninf (k0_pay9 (xblk c fh0 (Ring.bk 20 t.val)) x1 x2) sm := by
      delta kernelRun0_D.sl.r_4; rw [e1, e3, e8]; rfl
    have e5 : kernelRun0_D.sl.r_5 c t arg2 harg2 arg3 harg3 arg4 harg4 arg8 harg8 x0 x1 x2 fh0 sm
        = k0_pay13 (k0_pay7 x0) (k0_pay8 (xblk c fh0 (Ring.bk 20 t.val)) x1 x2) ninf (k0_pay9 (xblk c fh0 (Ring.bk 20 t.val)) x1 x2) sm := by
      delta kernelRun0_D.sl.r_5; rw [e1, e2, e3, e8]; rfl
    have w9 : k0_pay14 (kernelRun0_D.sl.r_1 c arg2 harg2 x0) (kernelRun0_D.sl.r_2 c t arg3 harg3 arg4 harg4 x1 x2 fh0) kernelRun0_D.sl.cst_13
          (kernelRun0_D.sl.r_3 c t arg3 harg3 arg4 harg4 x1 x2 fh0)
          (View.readAt (Elt F) arg8.view (Rect.unit ![0, 0] S128x1.size inb_S128x1_S128x1_0_0).toLoadRect (harg8.unread sm))
          (View.readAt (Elt F) arg9.view (Rect.unit ![0, 0] S128x1.size inb_S128x1_S128x1_0_0).toLoadRect (harg9.unread ss))
        = newS (xblk c fh0 (Ring.bk 20 t.val)) x0 x1 x2 sm ss := by rw [e1, e2, e3, e8, e9]; rfl
    have w10 : k0_pay1 (kernelRun0_D.sl.r c t fh0) (kernelRun0_D.sl.r_4 c t arg2 harg2 arg3 harg3 arg4 harg4 arg8 harg8 x0 x1 x2 fh0 sm) (kernelRun0_D.sl.r_5 c t arg2 harg2 arg3 harg3 arg4 harg4 arg8 harg8 x0 x1 x2 fh0 sm) kernelRun0_D.sl.cst_30
          (View.readAt (Elt F) arg10.view (Rect.unit (s := S128x512) ![0, 0] S128x512.size inb_S128x512_S128x512_0_0).toLoadRect (harg10.unread sa))
        = newA (xblk c fh0 (Ring.bk 20 t.val)) x0 x1 x2 sm sa := by rw [e0, e4, e5, e10]; rfl
    have c9 : kernelRun0_D.sl.v87 c t arg2 harg2 arg3 harg3 arg4 harg4 arg8 harg8 arg9 harg9 x0 x1 x2 fh0 sm ss = newS (xblk c fh0 (Ring.bk 20 t.val)) x0 x1 x2 sm ss := (View.readCov_full _ _ _ _ _).trans w9
    have c10 : kernelRun0_D.sl.v90 c t arg2 harg2 arg3 harg3 arg4 harg4 arg8 harg8 arg10 harg10 x0 x1 x2 fh0 sm sa = newA (xblk c fh0 (Ring.bk 20 t.val)) x0 x1 x2 sm sa := (View.readCov_full _ _ _ _ _).trans w10
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      exact (View.read_writes_full _ _ _ _ _).trans (congrArg₂ k0_pay2 c9 c10)
    isplitl [HS1]
    · iexists _; isplitr; swap; · iexact HS1
      ipureintro
      exact (View.read_writes_full _ _ _ _ _).trans (by rw [e1, e3, e8]; rfl)
    isplitl [HS2]
    · iexists _; isplitr; swap; · iexact HS2
      ipureintro
      exact (View.read_writes_full _ _ _ _ _).trans w9
    isplitl [HS3]
    · iexists _; isplitr; swap; · iexact HS3
      ipureintro
      exact (View.read_writes_full _ _ _ _ _).trans w10
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    iexists _; iexact HW

end Cert.KernelIdeal.Pool

end
-- ==== Proof.Tracked.lean ====
/-
  The launch of the idealized kernel, with the carried scratches tracked: before each point they hold the state that the blocks
  so far leave (`stAt`), and at the last point the output is written from the state after it.
-/
module

public import proofs.«01_k».proof.Proof.RunA
public import proofs.«01_k».proof.Proof.RunB
public import proofs.«01_k».proof.Proof.RunC
public import proofs.«01_k».proof.Proof.RunD

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the carried scratches hold between the points -/

/-- The grid's point `n` (for `n` below 20). -/
def pt (n : ℕ) : Fin cfg0.N := Fin.cast N_0.symm (Ring.bk 20 n)

theorem pt_val (t : Fin cfg0.N) : pt t.val = t := by
  apply Fin.ext
  show t.val % 20 = t.val
  exact Nat.mod_eq_of_lt (lt_of_lt_of_eq t.isLt N_0)

/-- The running maximum, denominator and numerator of each graph after the first `n` blocks. -/
def stAt (c : Dev nD) : ℕ → Vec F S128x1 .f32 × Vec F S128x1 .f32 × Vec F S128x512 .f32
  | 0 => (k0_pay3, k0_pay4, k0_pay5)
  | n + 1 =>
    (newM (xblk c (V m c main_arg0) (Ring.bk 20 n)) (iblk m c 0 (pt n)) (iblk m c 1 (pt n)) (iblk m c 2 (pt n)) (stAt c n).1,
     newS (xblk c (V m c main_arg0) (Ring.bk 20 n)) (iblk m c 0 (pt n)) (iblk m c 1 (pt n)) (iblk m c 2 (pt n)) (stAt c n).1 (stAt c n).2.1,
     newA (xblk c (V m c main_arg0) (Ring.bk 20 n)) (iblk m c 0 (pt n)) (iblk m c 1 (pt n)) (iblk m c 2 (pt n)) (stAt c n).1 (stAt c n).2.2)

/-- What the state after point `t` is, from the state before it. -/
theorem stAt_succ (c : Dev nD) (t : Fin cfg0.N) : stAt m c (t.val + 1) =
    (newM (xblk c (V m c main_arg0) (Ring.bk 20 t.val)) (iblk m c 0 t) (iblk m c 1 t) (iblk m c 2 t) (stAt m c t.val).1,
     newS (xblk c (V m c main_arg0) (Ring.bk 20 t.val)) (iblk m c 0 t) (iblk m c 1 t) (iblk m c 2 t) (stAt m c t.val).1 (stAt m c t.val).2.1,
     newA (xblk c (V m c main_arg0) (Ring.bk 20 t.val)) (iblk m c 0 t) (iblk m c 1 t) (iblk m c 2 t) (stAt m c t.val).1 (stAt m c t.val).2.2) := by
  rw [stAt, pt_val]

/-- What the body writes to the output at the last point, from the state after it. -/
def outAt (c : Dev nD) (n : ℕ) : Vec F S128x512 .f32 := k0_pay2 (stAt m c n).2.1 (stAt m c n).2.2

/-- The three carried scratches before point `k`: at anything before the first, at the state's components after. -/
def scrAt (c : Dev nD) (k : ℕ) : sProp 𝕄 :=
  if k = 0 then iprop((∃ d, owns (c : Thread nD τ) scM0_1 fullShare d) ∗ (∃ d, owns (c : Thread nD τ) scM0_2 fullShare d) ∗ (∃ d, owns (c : Thread nD τ) scM0_3 fullShare d))
  else iprop(owns (c : Thread nD τ) scM0_1 fullShare (stAt m c k).1 ∗ owns (c : Thread nD τ) scM0_2 fullShare (stAt m c k).2.1 ∗ owns (c : Thread nD τ) scM0_3 fullShare (stAt m c k).2.2)

/-- The output window is not written before the last point, is not sent back before it, and is written there. -/
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
theorem liveAt0_3 : ∀ t : Fin cfg0.N, cond0_2 (grid0.coords t) → cfg0.idle 3 (grid0.coords t) = false := by decide +kernel

/-! ## The pipeline's proof data -/

/-- The region invariant before point `k`: the carried scratches, the generator register at some state, and the ring before point `k`. -/
def PhiR (c : Dev nD) (k : ℕ) : sProp 𝕄 := iprop(scrAt m c k ∗ (∃ r, prngReg c r) ∗ ringAt0_0 c (V m c main_arg0) k)

/-- The proof data of the one pipeline on core `c`: the arrays as the region finds them (`V`); after the body at point `t` each input's
    buffer at its block and the output's at `outAt`; the invariant `PhiR`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c (t.val + 1)
  Φ t := PhiR m c t.val
  q _ := fullShare
  owed _ := 0

/-- The proof data's arrays are the region-entry contents: the proof data's definition projected (`dsimp`). -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem after0_3 (c : Dev nD) (t : Fin cfg0.N) : (dats m 0 c).after 3 t = outAt m c (t.val + 1) := by dsimp only [dats]

/-- Each input's current staging buffer holds its block at every point, fetched there or not. -/
theorem before0_0 (c : Dev nD) (t : Fin cfg0.N) (d) : (dats m 0 c).before 0 t d = iblk m c 0 t :=
  before_of_0 m (dats m 0 c) (A_eq m c 0) (after0_0 m c) t d
theorem before0_1 (c : Dev nD) (t : Fin cfg0.N) (d) : (dats m 0 c).before 1 t d = iblk m c 1 t :=
  before_of_1 m (dats m 0 c) (A_eq m c 1) (after0_1 m c) t d
theorem before0_2 (c : Dev nD) (t : Fin cfg0.N) (d) : (dats m 0 c).before 2 t d = iblk m c 2 t :=
  before_of_2 m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 3200000 in
/-- The body at any point: the inputs' buffers hold their blocks, the point's case is decided by the grid conditions, and the case's run
    takes the ring's pieces the point works on and the carried scratches at the state before the point, and hands them back at the state after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 scrAt
  have hgN : grid0.N = 20 := N_0
  have hN : t.val < 20 := lt_of_lt_of_eq t.isLt (show cfg0.N = 20 from N_0)
  by_cases h0 : t.val % 20 = 0
  · by_cases h1 : t.val < 18
    · by_cases h2 : t.val % 20 = 19
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3 t (fun h => h2 ((hcond0_2 t).mp h))) (noFlush0_3 t (fun h => h2 ((hcond0_2 t).mp h))), stAt_succ m c t]
        have hr0 := rstep0_0_A t ((hcond0_0 t).mpr h0) ((hcond0_1 t).mpr h1) (fun h => h2 ((hcond0_2 t).mp h))
        obtain ⟨hK00, hK10⟩ := hr0
        rw [if_pos hK00, if_neg (show ¬t.val + 1 = 0 by omega), if_pos hK00, if_neg (show ¬t.val + 1 = 0 by omega), show stAt m c t.val = (k0_pay3, k0_pay4, k0_pay5) from by rw [hK00]; rfl]
        rw [Ring.At₀_eq3' _ _ _ t.val hK00 (by decide : 3 ≤ 20), Ring.At3_one' _ _ _ _ t.val hK00 (by decide : 3 ≤ 20)]
        iintro ⟨⟨⟨HS1, HS2, HS3⟩, Hg, ⟨-, Hfr0_0_0, Hfr0_0_1, Hfr0_0_2⟩⟩, ⟨%W, -, HW⟩, ⟨%d0, H0⟩, ⟨%d1, H1⟩, ⟨%d2, H2⟩, ⟨%d3, H3⟩⟩
        iapply ((kernelRun0_A c t _ _ _ _ _ _ _ _ _ _ _ _ _ _ ((hcond0_0 t).mpr h0) ((hcond0_1 t).mpr h1) (fun h => h2 ((hcond0_2 t).mp h)) (iblk m c 0 t) (iblk m c 1 t) (iblk m c 2 t) _ (V m c main_arg0)) W _)
        isplitl [H0]; · iexact H0
        isplitl [H1]; · iexact H1
        isplitl [H2]; · iexact H2
        isplitl [H3]; · iexact H3
        isplitl [HS1]; · iexact HS1
        isplitl [HS2]; · iexact HS2
        isplitl [HS3]; · iexact HS3
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, H2, H3, HS1, HS2, HS3, Hfa0_0', Hfb0_0', Hfc0_0', ⟨%W', HW'⟩⟩
        isplitl [HS1 HS2 HS3 Hg Hfa0_0' Hfb0_0' Hfc0_0']
        · isplitl [HS1 HS2 HS3]
          · isplitl [HS1]; · iexact HS1
            isplitl [HS2]; · iexact HS2
            iexact HS3
          isplitl [Hg]; · iexact Hg
          iapply (Ring.with_homes (Idealize.SL.BI.Entails.refl _))
          isplitl [Hfa0_0']; · iexact Hfa0_0'
          isplitl [Hfb0_0']; · iexact Hfb0_0'
          iexact Hfc0_0'
        isplitl [HW']
        · iexists W'; isplitr; · ipureintro; exact fun _ _ => Or.inl trivial
          iexact HW'
        isplitl [H0]; · iexact H0
        isplitl [H1]; · iexact H1
        isplitl [H2]; · iexact H2
        iexists _; iexact H3
    · exfalso; omega
  · by_cases h1 : t.val < 18
    · by_cases h2 : t.val % 20 = 19
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3 t (fun h => h2 ((hcond0_2 t).mp h))) (noFlush0_3 t (fun h => h2 ((hcond0_2 t).mp h))), stAt_succ m c t]
        have hr0 := rstep0_0_B t (fun h => h0 ((hcond0_0 t).mp h)) ((hcond0_1 t).mpr h1) (fun h => h2 ((hcond0_2 t).mp h))
        obtain ⟨hK10, hKB0, hKs0⟩ := hr0
        rw [if_neg (show ¬t.val = 0 by omega), if_neg (show ¬t.val + 1 = 0 by omega), if_neg (show ¬t.val = 0 by omega), if_neg (show ¬t.val + 1 = 0 by omega)]
        rw [Ring.At3_here _ _ _ _ t.val hKB0, Ring.At3_next _ _ _ _ t.val hKB0, Ring.slotAt3_next0 _ _ _ t.val (by omega), Ring.slotAt3_next1 _ _ _ t.val hKB0]
        iintro ⟨⟨⟨HS1, HS2, HS3⟩, Hg, ⟨-, Hfr0_0_0, Hfr0_0_1, Hfr0_0_2⟩⟩, ⟨%W, -, HW⟩, ⟨%d0, H0⟩, ⟨%d1, H1⟩, ⟨%d2, H2⟩, ⟨%d3, H3⟩⟩
        iapply ((kernelRun0_B c t _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) _ (V m c main_arg0) (stAt m c t.val).1 (stAt m c t.val).2.1 (stAt m c t.val).2.2) W _)
        isplitl [H0]; · iexact H0
        isplitl [H1]; · iexact H1
        isplitl [H2]; · iexact H2
        isplitl [H3]; · iexact H3
        isplitl [HS1]; · iexact HS1
        isplitl [HS2]; · iexact HS2
        isplitl [HS3]; · iexact HS3
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, H2, H3, HS1, HS2, HS3, Hfa0_0', Hfb0_0', Hfc0_0', ⟨%W', HW'⟩⟩
        isplitl [HS1 HS2 HS3 Hg Hfa0_0' Hfb0_0' Hfc0_0']
        · isplitl [HS1 HS2 HS3]
          · isplitl [HS1]; · iexact HS1
            isplitl [HS2]; · iexact HS2
            iexact HS3
          isplitl [Hg]; · iexact Hg
          iapply (Ring.with_homes (Idealize.SL.BI.Entails.refl _))
          isplitl [Hfa0_0']; · iexact Hfa0_0'
          isplitl [Hfb0_0']; · iexact Hfb0_0'
          iexact Hfc0_0'
        isplitl [HW']
        · iexists W'; isplitr; · ipureintro; exact fun _ _ => Or.inl trivial
          iexact HW'
        isplitl [H0]; · iexact H0
        isplitl [H1]; · iexact H1
        isplitl [H2]; · iexact H2
        iexists _; iexact H3
    · by_cases h2 : t.val % 20 = 19
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
          unfold Dat.leavesExact; rw [liveAt0_3 t ((hcond0_2 t).mpr h2)], after0_3, outAt, stAt_succ m c t]
        have hr0 := rstep0_0_D t (fun h => h0 ((hcond0_0 t).mp h)) (fun h => h1 ((hcond0_1 t).mp h)) ((hcond0_2 t).mpr h2)
        obtain ⟨hK10, hKB0, hKlt0, hKs0⟩ := hr0
        rw [if_neg (show ¬t.val = 0 by omega), if_neg (show ¬t.val + 1 = 0 by omega), if_neg (show ¬t.val = 0 by omega), if_neg (show ¬t.val + 1 = 0 by omega)]
        rw [Ring.At3_here_tail _ _ _ _ t.val hKlt0, Ring.At3_next_tail _ _ _ _ t.val hKB0 hKlt0, Ring.slotAt3_tail_role _ _ _ t.val]
        iintro ⟨⟨⟨HS1, HS2, HS3⟩, Hg, ⟨-, Hfr0_0_0, Hfr0_0_1, Hfr0_0_2⟩⟩, ⟨%W, -, HW⟩, ⟨%d0, H0⟩, ⟨%d1, H1⟩, ⟨%d2, H2⟩, ⟨%d3, H3⟩⟩
        iapply ((kernelRun0_D c t _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (V m c main_arg0) (stAt m c t.val).1 (stAt m c t.val).2.1 (stAt m c t.val).2.2) W _)
        isplitl [H0]; · iexact H0
        isplitl [H1]; · iexact H1
        isplitl [H2]; · iexact H2
        isplitl [H3]; · iexists _; iexact H3
        isplitl [HS1]; · iexact HS1
        isplitl [HS2]; · iexact HS2
        isplitl [HS3]; · iexact HS3
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, H2, H3, HS1, HS2, HS3, Hfa0_0', Hfb0_0', Hfc0_0', ⟨%W', HW'⟩⟩
        isplitl [HS1 HS2 HS3 Hg Hfa0_0' Hfb0_0' Hfc0_0']
        · isplitl [HS1 HS2 HS3]
          · isplitl [HS1]; · iexact HS1
            isplitl [HS2]; · iexact HS2
            iexact HS3
          isplitl [Hg]; · iexact Hg
          iapply (Ring.with_homes (Idealize.SL.BI.Entails.refl _))
          isplitl [Hfa0_0']; · iexact Hfa0_0'
          isplitl [Hfb0_0']; · iexact Hfb0_0'
          iexact Hfc0_0'
        isplitl [HW']
        · iexists W'; isplitr; · ipureintro; exact fun _ _ => Or.inl trivial
          iexact HW'
        isplitl [H0]; · iexact H0
        isplitl [H1]; · iexact H1
        isplitl [H2]; · iexact H2
        iexact H3
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3 t (fun h => h2 ((hcond0_2 t).mp h))) (noFlush0_3 t (fun h => h2 ((hcond0_2 t).mp h))), stAt_succ m c t]
        have hr0 := rstep0_0_C t (fun h => h0 ((hcond0_0 t).mp h)) (fun h => h1 ((hcond0_1 t).mp h)) (fun h => h2 ((hcond0_2 t).mp h))
        obtain ⟨hK10, hKB0, hKlt0, hKs0⟩ := hr0
        rw [if_neg (show ¬t.val = 0 by omega), if_neg (show ¬t.val + 1 = 0 by omega), if_neg (show ¬t.val = 0 by omega), if_neg (show ¬t.val + 1 = 0 by omega)]
        rw [Ring.At3_here_tail _ _ _ _ t.val hKlt0, Ring.At3_next_tail _ _ _ _ t.val hKB0 hKlt0, Ring.slotAt3_tail_role _ _ _ t.val]
        iintro ⟨⟨⟨HS1, HS2, HS3⟩, Hg, ⟨-, Hfr0_0_0, Hfr0_0_1, Hfr0_0_2⟩⟩, ⟨%W, -, HW⟩, ⟨%d0, H0⟩, ⟨%d1, H1⟩, ⟨%d2, H2⟩, ⟨%d3, H3⟩⟩
        iapply ((kernelRun0_C c t _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) _ (V m c main_arg0) (stAt m c t.val).1 (stAt m c t.val).2.1 (stAt m c t.val).2.2) W _)
        isplitl [H0]; · iexact H0
        isplitl [H1]; · iexact H1
        isplitl [H2]; · iexact H2
        isplitl [H3]; · iexact H3
        isplitl [HS1]; · iexact HS1
        isplitl [HS2]; · iexact HS2
        isplitl [HS3]; · iexact HS3
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, H2, H3, HS1, HS2, HS3, Hfa0_0', Hfb0_0', Hfc0_0', ⟨%W', HW'⟩⟩
        isplitl [HS1 HS2 HS3 Hg Hfa0_0' Hfb0_0' Hfc0_0']
        · isplitl [HS1 HS2 HS3]
          · isplitl [HS1]; · iexact HS1
            isplitl [HS2]; · iexact HS2
            iexact HS3
          isplitl [Hg]; · iexact Hg
          iapply (Ring.with_homes (Idealize.SL.BI.Entails.refl _))
          isplitl [Hfa0_0']; · iexact Hfa0_0'
          isplitl [Hfb0_0']; · iexact Hfb0_0'
          iexact Hfc0_0'
        isplitl [HW']
        · iexists W'; isplitr; · ipureintro; exact fun _ _ => Or.inl trivial
          iexact HW'
        isplitl [H0]; · iexact H0
        isplitl [H1]; · iexact H1
        isplitl [H2]; · iexact H2
        iexists _; iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [scrAt, if_pos rfl]
  iintro ⟨⟨HR0_0, HS1, HS2, HS3⟩, Hg, ⟨Hq0, Hq1, Hq2⟩, Hh0⟩
  isplitl [HS1 HS2 HS3]
  · isplitl [HS1]; · iexact HS1
    isplitl [HS2]; · iexact HS2
    iexact HS3
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 20 by rw [N_0]]
  rw [scrAt, if_neg (by decide)]
  iintro ⟨⟨HS1, HS2, HS3⟩, Hg, HR0_0⟩
  ihave HX0_0 := (ring0_0_out (F := F) m c) $$ HR0_0
  icases HX0_0 with ⟨HR0_0, ⟨Hq0, Hq1, Hq2⟩, Hh0⟩
  isplitl [HR0_0 HS1 HS2 HS3]
  · isplitl [HR0_0]; · iexact HR0_0
    isplitl [HS1]; · iexists _; iexact HS1
    isplitl [HS2]; · iexists _; iexact HS2
    iexists _; iexact HS3
  isplitl [Hg]
  · iexact Hg
  isplitl [Hq0 Hq1 Hq2]
  · isplitl [Hq0]; · iexact Hq0
    isplitl [Hq1]; · iexact Hq1
    iexact Hq2
  iexact Hh0

/-! ## The run and the frame -/

-- the launch theorem's implicit arguments are found by unifying its conclusion with this one, which takes unfolding plain
-- definitions in a metavariable's type
set_option backward.isDefEq.respectTransparency.types false in
/-- The launch: every weakly fair execution of @main terminates, with every array of the pipeline at what the proof data says, every
    other buffer outside the kernel as the region found it, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

end Cert.KernelIdeal.Pool

end
-- ==== Proof.Final.lean ====
/-
  The idealized kernel's run: the output array ends as the state after the last block leaves it (`outAt` at 20), the arguments unchanged.
-/
module

public import proofs.«01_k».proof.Proof.Tracked
public import Idealize.ShloMosaic.Lib.Pipeline.Value

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output window's index map is constant. -/
theorem idx3 : ∀ t : Fin cfg0.N, win0_3.index t (0 : Fin 2) = 0 ∧ win0_3.index t (1 : Fin 2) = 0 :=
  (by decide +kernel : ∀ t : Fin grid0.N, _)

/-- Only the last point writes the output back. -/
theorem flush3 : ∀ t : Fin cfg0.N, (cfg0.win 3).flush t = true → t.val = 19 :=
  (by decide +kernel : ∀ t : Fin grid0.N, win0_3.flush t = true → t.val = 19)

/-- The last point. -/
abbrev lastPt : Fin grid0.N := ⟨19, lt_of_lt_of_eq (by decide) N_0.symm⟩

theorem flush3_last : win0_3.flush lastPt = true := by decide +kernel

/-- An index of the array is in a point's block iff each coordinate is in the block's range on its axis. -/
theorem mem_blk3 (t : Fin cfg0.N) (i : S128x512.Idx) :
    i ∈ ((cfg0.win 3).blk t).view.set ↔ ∀ a : Fin 2, win0_3.index t a * S128x512.size a ≤ (i a).val ∧ (i a).val < win0_3.index t a * S128x512.size a + S128x512.size a := by
  show i ∈ ((View.whole main_v2).slice (win0_3.rect t)).set ↔ _
  rw [View.set_slice_whole, Rect.mem_set_unit]
  exact Iff.rfl

/-- The output array after the run. -/
theorem final3 (c : Dev nD) : (dats m 0 c).arrAt 3 cfg0.N = outAt m c 20 := by
  refine (dats m 0 c).arrAt_eq_of_cover 3 (outAt m c 20) (fun t hf => ?_) (fun i => ⟨lastPt, flush3_last, ?_⟩)
  · show (cfg0.win 3).cut (grid0.coords t) ((dats m 0 c).after 3 t) = _
    rw [after0_3, flush3 t hf]
    obtain ⟨e0, e1⟩ := idx3 t
    funext y
    have hb0 : (((cfg0.win 3).blk t).view.emb y 0).val = win0_3.index t (0 : Fin 2) * 128 + 1 * (y 0).val := rfl
    have hb1 : (((cfg0.win 3).blk t).view.emb y 1).val = win0_3.index t (1 : Fin 2) * 512 + 1 * (y 1).val := rfl
    show outAt m c 20 ((cfg0.win 3).xinj (grid0.coords t) y) = outAt m c 20 (((cfg0.win 3).blk t).view.emb y)
    refine congrArg (outAt m c 20) ?_
    funext a; apply Fin.ext
    match a with
    | ⟨0, _⟩ => show (y 0).val = (((cfg0.win 3).blk t).view.emb y 0).val; rw [hb0]; omega
    | ⟨1, _⟩ => show (y 1).val = (((cfg0.win 3).blk t).view.emb y 1).val; rw [hb1]; omega
  · rw [mem_blk3]
    obtain ⟨e0, e1⟩ := idx3 lastPt
    have hi0 : (i 0).val < 128 := (i 0).isLt
    have hi1 : (i 1).val < 512 := (i 1).isLt
    intro a
    match a with
    | ⟨0, _⟩ => show win0_3.index lastPt (0 : Fin 2) * 128 ≤ (i 0).val ∧ (i 0).val < win0_3.index lastPt (0 : Fin 2) * 128 + 128; omega
    | ⟨1, _⟩ => show win0_3.index lastPt (1 : Fin 2) * 512 ≤ (i 1).val ∧ (i 1).val < win0_3.index lastPt (1 : Fin 2) * 512 + 512; omega

/-- The kernel's run from any launch: the result array ends as `outAt` at 20, every argument is as launched, and every semaphore
    is back at zero. -/
theorem run : θ_run defs (onTc (τ := τ) (main (F := F))) (s₀ m ρ) fun r => (∀ c : Dev nD,
      r.2.mem ((c : Thread nD τ).loc main_v2) = outAt m c 20
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 :=
  (θ_run defs _ _).mono (fun r h => ⟨fun c => ⟨((h.1 c).1 3).trans (final3 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main_quiescent m ρ)

end Cert.KernelIdeal.Pool

end
-- ==== Proof.Blocks.lean ====
/-
  The blocks that a point reads, in the elements of the arguments as launched.
-/
module

public import proofs.«01_k».proof.Proof.Tracked
public import Idealize.ShloMosaic.Lib.Pointwise
public import Idealize.ShloMosaic.Lib.Pipeline.Value

@[expose] public section

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Row `j` of block `k`. -/
def row (k : Fin 20) (j : Fin 5000) : Fin 100000 := ⟨5000 * k.val + j.val, by omega⟩

theorem V_ids (c : Dev nD) : V m c main_call0_v0 = shapeCast S20x1x5000 (m ((c : Thread nD τ).loc main_arg1)) shapeCasts_S100000_S20x1x5000 := by
  show StableHlo.after [_, _, _] _ (Proc.devRef .tc main_call0_v0) = _
  after_results
  rfl

theorem V_w (c : Dev nD) : V m c main_v0 = shapeCast S1x512 (m ((c : Thread nD τ).loc main_arg2)) shapeCasts_S512x1_S1x512 := by
  show StableHlo.after [_, _, _] _ (Proc.devRef .tc main_v0) = _
  after_results
  rfl

theorem V_b (c : Dev nD) : V m c main_v1 = shapeCast S1x1 (m ((c : Thread nD τ).loc main_arg3)) shapeCasts_S1_S1x1 := by
  show StableHlo.after [_, _, _] _ (Proc.devRef .tc main_v1) = _
  after_results
  rfl

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

/-- The segment ids that point `k` reads. -/
theorem ids_at (c : Dev nD) (k : Fin 20) (j : Fin 5000) :
    (iblk m c 0 (pt k.val) : Vec F S1x1x5000 .i32) (ix3 0 0 j) = m ((c : Thread nD τ).loc main_arg1) (ix1 (row k j)) := by
  show V m c main_call0_v0 (((cfg0.win 0).blk (pt k.val)).view.emb (ix3 0 0 j)) = _
  rw [V_ids]
  obtain ⟨e0, e1, e2⟩ := idx0 (pt k.val)
  have hk : (pt k.val).val = k.val := Nat.mod_eq_of_lt k.isLt
  have he : ((cfg0.win 0).blk (pt k.val)).view.emb (ix3 0 0 j) = (ix3 k 0 j : S20x1x5000.Idx) := by
    funext a; apply Fin.ext
    match a with
    | ⟨0, _⟩ => show win0_0.index (pt k.val) (0 : Fin 3) * 1 + 1 * 0 = k.val; omega
    | ⟨1, _⟩ => show win0_0.index (pt k.val) (1 : Fin 3) * 1 + 1 * 0 = 0; omega
    | ⟨2, _⟩ => show win0_0.index (pt k.val) (2 : Fin 3) * 5000 + 1 * j.val = j.val; omega
  rw [he]
  refine Idealize.ShloMosaic.shapeCast_apply _ shapeCasts_S100000_S20x1x5000 (ix3 k 0 j) (ix1 (row k j)) ?_
  rw [Shape.rowMajor_val_one, Shape.rowMajor_val_three]
  show 5000 * k.val + j.val = (k.val * 1 + 0) * 5000 + j.val
  omega

/-- The weights that a point reads. -/
theorem w_at (c : Dev nD) (t : Fin cfg0.N) (d : Fin 512) :
    (iblk m c 1 t : Vec F S1x512 .f32) (ix2 0 d) = m ((c : Thread nD τ).loc main_arg2) (ix2 d 0) := by
  show V m c main_v0 (((cfg0.win 1).blk t).view.emb (ix2 0 d)) = _
  rw [V_w]
  obtain ⟨e0, e1⟩ := idx1 t
  have he : ((cfg0.win 1).blk t).view.emb (ix2 0 d) = (ix2 0 d : S1x512.Idx) := by
    funext a; apply Fin.ext
    match a with
    | ⟨0, _⟩ => show win0_1.index t (0 : Fin 2) * 1 + 1 * 0 = 0; omega
    | ⟨1, _⟩ => show win0_1.index t (1 : Fin 2) * 512 + 1 * d.val = d.val; omega
  rw [he]
  pointwise

/-- The bias that a point reads. -/
theorem b_at (c : Dev nD) (t : Fin cfg0.N) :
    (iblk m c 2 t : Vec F S1x1 .f32) (ix2 0 0) = m ((c : Thread nD τ).loc main_arg3) (ix1 0) := by
  show V m c main_v1 (((cfg0.win 2).blk t).view.emb (ix2 0 0)) = _
  rw [V_b]
  obtain ⟨e0, e1⟩ := idx2 t
  have he : ((cfg0.win 2).blk t).view.emb (ix2 0 0) = (ix2 0 0 : S1x1.Idx) := by
    funext a; apply Fin.ext
    match a with
    | ⟨0, _⟩ => show win0_2.index t (0 : Fin 2) * 1 + 1 * 0 = 0; omega
    | ⟨1, _⟩ => show win0_2.index t (1 : Fin 2) * 1 + 1 * 0 = 0; omega
  rw [he]
  pointwise

/-- The rows of the features that point `k` reads. -/
theorem x_at (c : Dev nD) (k : Fin 20) (j : Fin 5000) (d : Fin 512) :
    xblk c (V m c main_arg0) k (ix3 0 j d) = m ((c : Thread nD τ).loc main_arg0) (ix2 (row k j) d) := by
  rw [← V_main_arg0 m c]
  generalize (V m c main_arg0) = W
  unfold xblk
  pointwise
  show W ((srcB0_0 k).view.emb (ix2 j d)) = _
  refine congrArg W ?_
  funext a; apply Fin.ext
  match a with
  | ⟨0, _⟩ => show 5000 * k.val + 1 * j.val = 5000 * k.val + j.val; omega
  | ⟨1, _⟩ => show 0 + 1 * d.val = d.val; omega

end Cert.KernelIdeal.Pool

end
-- ==== Proof.Online.lean ====
/-
  The running softmax of one segment, over the reals in the extended reals: the maximum of the gates so far, and the weighted sums
  against it, carried from the rows seen so far to those and the next block's.
-/
module

public import Idealize.ShloMosaic.Lib.Pointwise

@[expose] public section

set_option maxRecDepth 16384

noncomputable section

namespace Cert.Pool

open Idealize.ShloMosaic

variable {ι : Type} [DecidableEq ι]

/-- The maximum over everything of what is masked to a set is the supremum over the set. -/
theorem fold_mask {κ : Type} [Fintype κ] (p : κ → Prop) [DecidablePred p] (f : κ → EReal) :
    Finset.univ.fold max ⊥ (fun i => if p i then f i else ⊥) = (Finset.univ.filter p).sup f := by
  have h : Finset.univ.fold max ⊥ (fun i => if p i then f i else ⊥) = Finset.univ.sup (fun i => if p i then f i else ⊥) := rfl
  rw [h, Finset.sup_ite]
  simp

/-- A sum of reals, in the extended reals. -/
theorem coe_sum (T : Finset ι) (f : ι → ℝ) : ((∑ i ∈ T, f i : ℝ) : EReal) = ∑ i ∈ T, (f i : EReal) := by
  induction T using Finset.induction_on with
  | empty => simp
  | insert a T ha ih => rw [Finset.sum_insert ha, Finset.sum_insert ha, EReal.coe_add, ih]

/-- The largest gate of a set of rows: `⊥` for none. -/
def top (g : ι → ℝ) (T : Finset ι) : EReal := T.sup fun i => (g i : EReal)

theorem top_empty (g : ι → ℝ) : top g ∅ = ⊥ := Finset.sup_empty

theorem top_union (g : ι → ℝ) (T U : Finset ι) : top g (T ∪ U) = max (top g T) (top g U) := Finset.sup_union

/-- The largest gate of some rows is a real. -/
theorem top_real (g : ι → ℝ) {T : Finset ι} (hT : T.Nonempty) : ∃ μ : ℝ, top g T = (μ : EReal) := by
  obtain ⟨i, -, hi⟩ := Finset.exists_mem_eq_sup T hT (fun i => (g i : EReal))
  exact ⟨g i, hi⟩

/-- The sum of the values `f` over the rows `T`, each at its softmax weight against the rows' largest gate. -/
def wsum (g f : ι → ℝ) (T : Finset ι) : ℝ := ∑ i ∈ T, Real.exp (g i - (top g T).toReal) * f i

theorem wsum_empty (g f : ι → ℝ) : wsum g f ∅ = 0 := Finset.sum_empty

/-- THE STEP of the running softmax: the sum so far scaled to the new largest gate, and the block's terms against it, are the sum
    over both. -/
theorem wsum_step (g f : ι → ℝ) {T U : Finset ι} (hd : Disjoint T U) :
    ((wsum g f T : ℝ) : EReal) * (if top g T = ⊥ then 0 else Ideal.exp (top g T - top g (T ∪ U)))
      + ∑ i ∈ U, Ideal.exp ((g i : EReal) - top g (T ∪ U)) * (f i : EReal) = ((wsum g f (T ∪ U) : ℝ) : EReal) := by
  have hU : ∑ i ∈ U, Ideal.exp ((g i : EReal) - top g (T ∪ U)) * (f i : EReal)
      = ((∑ i ∈ U, Real.exp (g i - (top g (T ∪ U)).toReal) * f i : ℝ) : EReal) := by
    rw [coe_sum]
    refine Finset.sum_congr rfl fun i hi => ?_
    obtain ⟨μ, hμ⟩ := top_real g (T := T ∪ U) ⟨i, Finset.mem_union_right T hi⟩
    rw [hμ, EReal.toReal_coe, EReal.coe_mul, ← EReal.coe_sub, Ideal.exp_coe]
  rw [hU]
  rcases T.eq_empty_or_nonempty with rfl | hT
  · rw [top_empty, if_pos rfl, mul_zero, zero_add, wsum, Finset.empty_union]
  · obtain ⟨μ, hμ⟩ := top_real g hT
    obtain ⟨ν, hν⟩ := top_real g (T := T ∪ U) (hT.mono Finset.subset_union_left)
    rw [if_neg (by rw [hμ]; exact EReal.coe_ne_bot μ), wsum, wsum, hμ, hν, EReal.toReal_coe, EReal.toReal_coe, ← EReal.coe_sub, Ideal.exp_coe,
      ← EReal.coe_mul, ← EReal.coe_add, Finset.sum_union hd, Finset.sum_mul]
    refine congrArg _ (congrArg (· + _) (Finset.sum_congr rfl fun i _ => ?_))
    rw [mul_right_comm, ← Real.exp_add]
    congr 2
    ring

/-- The sum of the weights themselves is positive for some rows. -/
theorem wsum_one_pos (g : ι → ℝ) {T : Finset ι} (hT : T.Nonempty) : 0 < wsum g (fun _ => 1) T :=
  Finset.sum_pos (fun i _ => by rw [mul_one]; exact Real.exp_pos _) hT

/-- The pooled value: each row's value at its share of the weights. -/
def pooled (g f : ι → ℝ) (T : Finset ι) : ℝ := ∑ i ∈ T, Real.exp (g i - (top g T).toReal) / wsum g (fun _ => 1) T * f i

/-- The finish: the quotient of the two running sums where there are rows, and zero otherwise, is the pooled value. -/
theorem finish (g f : ι → ℝ) (T : Finset ι) :
    (if (0 : EReal) < ((wsum g (fun _ => 1) T : ℝ) : EReal) then Ideal.div ((wsum g f T : ℝ) : EReal) ((wsum g (fun _ => 1) T : ℝ) : EReal) else 0)
      = ((pooled g f T : ℝ) : EReal) := by
  rcases T.eq_empty_or_nonempty with rfl | hT
  · rw [wsum_empty, EReal.coe_zero, if_neg (lt_irrefl _), pooled, Finset.sum_empty, EReal.coe_zero]
  · have hp := wsum_one_pos g hT
    rw [if_pos (by exact_mod_cast hp), Ideal.div_coe hp.ne', ← EReal.coe_mul, pooled, wsum, Finset.sum_mul]
    refine congrArg _ (Finset.sum_congr rfl fun i _ => ?_)
    ring

end Cert.Pool

end
-- ==== Proof.Pay.lean ====
/-
  What one point computes, at an index of the idealized instance: the new largest gates, the new weight sums, the new accumulator and
  the output.
-/
module

public import proofs.«01_k».proof.Proof.Step
public import proofs.«01_k».proof.Proof.Online
public import Idealize.ShloMosaic.Lib.Pointwise

@[expose] public section

set_option maxRecDepth 16384

noncomputable section

namespace Cert.KernelIdeal.Pool

open Cert.KernelIdeal.Gen
open Idealize.ShloMosaic Idealize.ShloMosaic.TcCoe

variable (xb : Vec Ideal S1x5000x512 .f32) (ids : Vec Ideal S1x1x5000 .i32) (w : Vec Ideal S1x512 .f32) (b : Vec Ideal S1x1 .f32)
  (sm ss : Vec Ideal S128x1 .f32) (sa : Vec Ideal S128x512 .f32)

theorem bneg16 : Ideal.ofBits .bf16 65408#16 = ⊥ := by simp [Ideal.ofBits, Ideal.ieee]
theorem bneg32 : Ideal.ofBits .f32 4286578688#32 = ⊥ := by simp [Ideal.ofBits, Ideal.ieee]

theorem sel (p : Prop) [Decidable p] {α : Type} (x y : α) : Scalar.select (BitVec.ofBool (decide p)) x y = if p then x else y := by
  by_cases h : p <;> simp [h, Scalar.select]

/-- The gates of a block. -/
theorem gate_at (j : Fin 5000) : k0_pay8 (F := Ideal) xb w b (ix2 0 j) = (∑ d : Fin 512, w (ix2 0 d) * xb (ix3 0 j d) + b (ix2 0 0) : EReal) := by
  pointwise [k0_pay8, k0_pay6]

/-- The membership mask of a block whose segment ids are in range. -/
theorem mask_at (sg : Fin 5000 → Fin 128) (hsg : ∀ j, ids (ix3 0 0 j) = BitVec.ofNat 32 (sg j).val) (c : Fin 128) (j : Fin 5000) :
    k0_pay7 (F := Ideal) ids (ix2 c j) = BitVec.ofBool (decide (sg j = c)) := by
  pointwise [k0_pay7]
  rw [hsg]
  have h1 : BitVec.setWidth 16 (BitVec.ofNat 32 (sg j).val) = BitVec.ofNat 16 (sg j).val := by
    apply BitVec.eq_of_toNat_eq
    have := (sg j).isLt
    simp [BitVec.toNat_setWidth, BitVec.toNat_ofNat]
  rw [h1]
  unfold IntOp.cmpi
  refine congrArg BitVec.ofBool ?_
  have h2 : (BitVec.ofNat 16 (sg j).val = BitVec.ofNat 16 c.val) ↔ sg j = c := by
    constructor
    · intro h
      have := congrArg BitVec.toNat h
      simp only [BitVec.toNat_ofNat] at this
      have a := (sg j).isLt; have b := c.isLt
      exact Fin.ext (by omega)
    · intro h; rw [h]
  by_cases h : sg j = c
  · simp [h]
  · have h3 := fun e => h (h2.1 e)
    simp [h]
    exact h3

variable (sg : Fin 5000 → Fin 128) (hsg : ∀ j, ids (ix3 0 0 j) = BitVec.ofNat 32 (sg j).val)
  (γ : Fin 5000 → ℝ) (hγ : ∀ j, k0_pay8 (F := Ideal) xb w b (ix2 0 j) = (γ j : EReal))
include hsg hγ

theorem newM_at (c : Fin 128) : newM xb ids w b sm (ix2 c 0)
    = (max (sm (ix2 c 0)) ((Finset.univ.filter fun j => sg j = c).sup fun j => (γ j : EReal)) : EReal) := by
  have hm := mask_at ids sg hsg
  unfold newM k0_pay11 k0_pay10 k0_pay9
  generalize k0_pay7 (F := Ideal) ids = oh at *
  generalize k0_pay8 (F := Ideal) xb w b = g at *
  pointwise
  simp only [hm, hγ, bneg16, sel]
  rw [Cert.Pool.fold_mask]

theorem scale_at (c : Fin 128) : k0_pay12 (F := Ideal) (k0_pay7 ids) ninf (k0_pay9 xb w b) sm (ix2 c 0)
    = (if sm (ix2 c 0) = (⊥ : EReal) then 0 else Ideal.exp ((sm (ix2 c 0) : EReal) - newM xb ids w b sm (ix2 c 0)) : EReal) := by
  rw [newM_at xb ids w b sm sg hsg γ hγ]
  have hm := mask_at ids sg hsg
  unfold k0_pay12 k0_pay10 k0_pay9
  generalize k0_pay7 (F := Ideal) ids = oh at *
  generalize k0_pay8 (F := Ideal) xb w b = g at *
  pointwise
  simp only [hm, hγ, bneg16, bneg32, sel]
  rw [Cert.Pool.fold_mask]

theorem weight_at (c : Fin 128) (j : Fin 5000) : k0_pay13 (F := Ideal) (k0_pay7 ids) (k0_pay8 xb w b) ninf (k0_pay9 xb w b) sm (ix2 c j)
    = (if sg j = c then Ideal.exp ((γ j : EReal) - newM xb ids w b sm (ix2 c 0)) else 0 : EReal) := by
  have hM := newM_at xb ids w b sm sg hsg γ hγ
  simp only [hM]
  have hm := mask_at ids sg hsg
  unfold k0_pay13 k0_pay10 k0_pay9
  generalize k0_pay7 (F := Ideal) ids = oh at *
  generalize k0_pay8 (F := Ideal) xb w b = g at *
  pointwise
  simp only [hm, hγ, bneg16, sel, Cert.Pool.fold_mask]
  rw [Finset.sum_ite_eq, if_pos (Finset.mem_univ _)]
  by_cases h : sg j = c
  · rw [if_pos h, if_pos h, h]
  · rw [if_neg h, if_neg h]

theorem newS_at (c : Fin 128) : newS xb ids w b sm ss (ix2 c 0)
    = ((ss (ix2 c 0) : EReal) * (if sm (ix2 c 0) = (⊥ : EReal) then 0 else Ideal.exp ((sm (ix2 c 0) : EReal) - newM xb ids w b sm (ix2 c 0)))
      + ∑ j ∈ Finset.univ.filter (fun j => sg j = c), Ideal.exp ((γ j : EReal) - newM xb ids w b sm (ix2 c 0)) : EReal) := by
  rw [← scale_at xb ids w b sm sg hsg γ hγ]
  have hw := weight_at xb ids w b sm sg hsg γ hγ c
  unfold newS k0_pay14
  generalize k0_pay12 (F := Ideal) (k0_pay7 ids) ninf (k0_pay9 xb w b) sm = sc at *
  generalize k0_pay13 (F := Ideal) (k0_pay7 ids) (k0_pay8 xb w b) ninf (k0_pay9 xb w b) sm = wt at *
  pointwise
  rw [Finset.sum_filter]
  simp only [hw]

theorem newA_at (c : Fin 128) (d : Fin 512) : newA xb ids w b sm sa (ix2 c d)
    = ((sa (ix2 c d) : EReal) * (if sm (ix2 c 0) = (⊥ : EReal) then 0 else Ideal.exp ((sm (ix2 c 0) : EReal) - newM xb ids w b sm (ix2 c 0)))
      + ∑ j ∈ Finset.univ.filter (fun j => sg j = c), Ideal.exp ((γ j : EReal) - newM xb ids w b sm (ix2 c 0)) * xb (ix3 0 j d) : EReal) := by
  rw [← scale_at xb ids w b sm sg hsg γ hγ]
  have hw := weight_at xb ids w b sm sg hsg γ hγ c
  unfold newA k0_pay1 k0_pay6
  generalize k0_pay12 (F := Ideal) (k0_pay7 ids) ninf (k0_pay9 xb w b) sm = sc at *
  generalize k0_pay13 (F := Ideal) (k0_pay7 ids) (k0_pay8 xb w b) ninf (k0_pay9 xb w b) sm = wt at *
  pointwise
  rw [Finset.sum_filter]
  simp only [hw, ite_mul, zero_mul]

omit hsg hγ

/-- What the last point writes to the output. -/
theorem out_at (c : Fin 128) (d : Fin 512) : k0_pay2 (F := Ideal) ss sa (ix2 c d)
    = (if (0 : EReal) < ss (ix2 c 0) then Ideal.div (sa (ix2 c d)) (ss (ix2 c 0)) else 0 : EReal) := by
  unfold k0_pay2
  pointwise

end Cert.KernelIdeal.Pool

end
-- ==== Proof.KernelValue.lean ====
/-
  The kernel's result over real inputs: the carried scratches hold the running softmax of every segment over the rows read so far, and
  the output is the pooled value of every segment.
-/
module

public import proofs.«01_k».proof.Proof.Blocks
public import proofs.«01_k».proof.Proof.Pay

@[expose] public section

set_option maxRecDepth 16384

noncomputable section

namespace Cert.KernelIdeal.Pool

open Cert.KernelIdeal.Gen
open Idealize.ShloMosaic Idealize.ShloMosaic.TcCoe

open Cert.Pool

variable (m : (ℓ : Loc nD τ sig) → Buf (Elt Ideal) ℓ) (c : Dev nD)

/-- The gates. -/
def gate (x : Fin 100000 → Fin 512 → ℝ) (w : Fin 512 → ℝ) (β : ℝ) (i : Fin 100000) : ℝ := ∑ d, x i d * w d + β

/-- The rows of segment `s` in the first `n` blocks. -/
def seen (seg : Fin 100000 → Fin 128) (n : ℕ) (s : Fin 128) : Finset (Fin 100000) := Finset.univ.filter fun i => i.val < 5000 * n ∧ seg i = s

/-- The rows of segment `s` in block `k`. -/
def next (seg : Fin 100000 → Fin 128) (k : Fin 20) (s : Fin 128) : Finset (Fin 100000) :=
  (Finset.univ.filter fun j => seg (row k j) = s).map ⟨row k, fun a b h => by
    have e : 5000 * k.val + a.val = 5000 * k.val + b.val := congrArg Fin.val h
    exact Fin.ext (by omega)⟩

theorem sum_next (seg : Fin 100000 → Fin 128) (k : Fin 20) (s : Fin 128) (f : Fin 100000 → EReal) :
    ∑ j ∈ Finset.univ.filter (fun j => seg (row k j) = s), f (row k j) = ∑ i ∈ next seg k s, f i := by
  unfold next
  rw [Finset.sum_map]
  rfl

theorem top_next (g : Fin 100000 → ℝ) (seg : Fin 100000 → Fin 128) (k : Fin 20) (s : Fin 128) :
    (Finset.univ.filter (fun j => seg (row k j) = s)).sup (fun j => (g (row k j) : EReal)) = top g (next seg k s) := by
  unfold next top
  rw [Finset.sup_map]
  rfl

theorem mem_next (seg : Fin 100000 → Fin 128) (k : Fin 20) (s : Fin 128) (i : Fin 100000) :
    i ∈ next seg k s ↔ 5000 * k.val ≤ i.val ∧ i.val < 5000 * (k.val + 1) ∧ seg i = s := by
  unfold next
  rw [Finset.mem_map]
  constructor
  · rintro ⟨j, hj, rfl⟩
    have h := (Finset.mem_filter.1 hj).2
    have hl := j.isLt
    refine ⟨?_, ?_, h⟩
    · show 5000 * k.val ≤ 5000 * k.val + j.val; omega
    · show 5000 * k.val + j.val < 5000 * (k.val + 1); omega
  · rintro ⟨h1, h2, h3⟩
    have e : row k ⟨i.val - 5000 * k.val, by omega⟩ = i := Fin.ext (by show 5000 * k.val + (i.val - 5000 * k.val) = i.val; omega)
    exact ⟨⟨i.val - 5000 * k.val, by omega⟩, Finset.mem_filter.2 ⟨Finset.mem_univ _, by rw [e]; exact h3⟩, e⟩

theorem seen_succ (seg : Fin 100000 → Fin 128) (k : Fin 20) (s : Fin 128) : seen seg (k.val + 1) s = seen seg k.val s ∪ next seg k s := by
  ext i
  rw [Finset.mem_union, mem_next, seen, seen, Finset.mem_filter, Finset.mem_filter]
  constructor
  · rintro ⟨h0, h1, h2⟩
    by_cases h : i.val < 5000 * k.val
    · exact Or.inl ⟨h0, h, h2⟩
    · exact Or.inr ⟨by omega, h1, h2⟩
  · rintro (⟨h0, h1, h2⟩ | ⟨h0, h1, h2⟩)
    · exact ⟨h0, by omega, h2⟩
    · exact ⟨Finset.mem_univ _, h1, h2⟩

theorem seen_disjoint (seg : Fin 100000 → Fin 128) (k : Fin 20) (s : Fin 128) : Disjoint (seen seg k.val s) (next seg k s) := by
  rw [Finset.disjoint_left]
  intro i h1 h2
  have a := (Finset.mem_filter.1 h1).2.1
  have b := ((mem_next seg k s i).1 h2).1
  omega

theorem seen_all (seg : Fin 100000 → Fin 128) (s : Fin 128) : seen seg 20 s = Finset.univ.filter fun i => seg i = s := by
  ext i
  have := i.isLt
  simp only [seen, Finset.mem_filter, Finset.mem_univ, true_and]
  exact ⟨fun h => h.2, fun h => ⟨by omega, h⟩⟩

theorem seen_none (seg : Fin 100000 → Fin 128) (s : Fin 128) : seen seg 0 s = ∅ := by
  ext i
  simp [seen]

/-- One point's update of the running softmax, over the reals. -/
theorem step_at (x : Fin 100000 → Fin 512 → ℝ) (g : Fin 100000 → ℝ) (seg : Fin 100000 → Fin 128) (k : Fin 20) (s : Fin 128)
    (xb : Vec Ideal S1x5000x512 .f32) (ids : Vec Ideal S1x1x5000 .i32) (w : Vec Ideal S1x512 .f32) (b : Vec Ideal S1x1 .f32)
    (sm ss : Vec Ideal S128x1 .f32) (sa : Vec Ideal S128x512 .f32)
    (hids : ∀ j, ids (ix3 0 0 j) = BitVec.ofNat 32 (seg (row k j)).val)
    (hxb : ∀ j d, (xb (ix3 0 j d) : EReal) = (x (row k j) d : EReal))
    (hg : ∀ j, k0_pay8 (F := Ideal) xb w b (ix2 0 j) = (g (row k j) : EReal))
    (iM : sm (ix2 s 0) = (top g (seen seg k.val s) : EReal))
    (iS : ss (ix2 s 0) = ((wsum g (fun _ => 1) (seen seg k.val s) : ℝ) : EReal))
    (iA : ∀ d : Fin 512, sa (ix2 s d) = ((wsum g (fun i => x i d) (seen seg k.val s) : ℝ) : EReal)) :
    newM xb ids w b sm (ix2 s 0) = (top g (seen seg (k.val + 1) s) : EReal)
    ∧ newS xb ids w b sm ss (ix2 s 0) = ((wsum g (fun _ => 1) (seen seg (k.val + 1) s) : ℝ) : EReal)
    ∧ ∀ d : Fin 512, newA xb ids w b sm sa (ix2 s d) = ((wsum g (fun i => x i d) (seen seg (k.val + 1) s) : ℝ) : EReal) := by
  have hM : newM xb ids w b sm (ix2 s 0) = (top g (seen seg k.val s ∪ next seg k s) : EReal) := by
    rw [newM_at xb ids w b sm (fun j => seg (row k j)) hids (fun j => g (row k j)) hg, iM, top_union, top_next g seg k s]
  rw [seen_succ]
  refine ⟨hM, ?_, fun d => ?_⟩
  · rw [newS_at xb ids w b sm ss (fun j => seg (row k j)) hids (fun j => g (row k j)) hg, hM, iM, iS,
      ← wsum_step g (fun _ => 1) (seen_disjoint seg k s),
      sum_next seg k s (fun i => Ideal.exp ((g i : EReal) - top g (seen seg k.val s ∪ next seg k s)))]
    simp only [EReal.coe_one, mul_one]
  · rw [newA_at xb ids w b sm sa (fun j => seg (row k j)) hids (fun j => g (row k j)) hg, hM, iM, iA,
      ← wsum_step g (fun i => x i d) (seen_disjoint seg k s)]
    simp only [hxb]
    rw [sum_next seg k s (fun i => Ideal.exp ((g i : EReal) - top g (seen seg k.val s ∪ next seg k s)) * (x i d : EReal))]

variable (x : Fin 100000 → Fin 512 → ℝ) (w : Fin 512 → ℝ) (β : ℝ) (seg : Fin 100000 → Fin 128)
  (hx : ∀ i d, (m ((c : Thread nD τ).loc main_arg0) (ix2 i d) : EReal) = (x i d : EReal))
  (hw : ∀ d, (m ((c : Thread nD τ).loc main_arg2) (ix2 d 0) : EReal) = (w d : EReal))
  (hβ : (m ((c : Thread nD τ).loc main_arg3) (ix1 0) : EReal) = (β : EReal))
  (hseg : ∀ i, m ((c : Thread nD τ).loc main_arg1) (ix1 i) = BitVec.ofNat 32 (seg i).val)
include hx hw hβ hseg

/-- What the carried scratches hold after `n` blocks. -/
theorem state_at (n : ℕ) (hn : n ≤ 20) (s : Fin 128) :
    (stAt m c n).1 (ix2 s 0) = (top (gate x w β) (seen seg n s) : EReal)
    ∧ (stAt m c n).2.1 (ix2 s 0) = ((wsum (gate x w β) (fun _ => 1) (seen seg n s) : ℝ) : EReal)
    ∧ ∀ d : Fin 512, (stAt m c n).2.2 (ix2 s d) = ((wsum (gate x w β) (fun i => x i d) (seen seg n s) : ℝ) : EReal) := by
  induction n with
  | zero =>
    rw [seen_none, top_empty]
    refine ⟨?_, ?_, fun d => ?_⟩
    · show k0_pay3 (F := Ideal) (ix2 s 0) = _
      unfold k0_pay3
      pointwise
      exact bneg32
    · show k0_pay4 (F := Ideal) (ix2 s 0) = _
      rw [wsum_empty]
      unfold k0_pay4
      pointwise
      rfl
    · show k0_pay5 (F := Ideal) (ix2 s d) = _
      rw [wsum_empty]
      unfold k0_pay5
      pointwise
      rfl
  | succ n ih =>
    obtain ⟨iM, iS, iA⟩ := ih (by omega)
    obtain ⟨k, rfl⟩ : ∃ k : Fin 20, k.val = n := ⟨⟨n, by omega⟩, rfl⟩
    have hk : Ring.bk 20 k.val = k := Fin.ext (Nat.mod_eq_of_lt k.isLt)
    have hids : ∀ j, (iblk m c 0 (pt k.val) : Vec Ideal S1x1x5000 .i32) (ix3 0 0 j) = BitVec.ofNat 32 (seg (row k j)).val :=
      fun j => (ids_at m c k j).trans (hseg _)
    have hxb : ∀ j d, (xblk c (V m c main_arg0) k (ix3 0 j d) : EReal) = (x (row k j) d : EReal) := fun j d => (x_at m c k j d).trans (hx _ _)
    have hg : ∀ j, k0_pay8 (F := Ideal) (xblk c (V m c main_arg0) k) (iblk m c 1 (pt k.val)) (iblk m c 2 (pt k.val)) (ix2 0 j)
        = (gate x w β (row k j) : EReal) := fun j => by
      rw [gate_at, gate, EReal.coe_add, coe_sum]
      refine congrArg₂ _ (Finset.sum_congr rfl fun d _ => ?_) ((b_at m c (pt k.val)).trans hβ)
      rw [hxb, (w_at m c (pt k.val) d).trans (hw d), EReal.coe_mul, mul_comm]
    rw [stAt, hk]
    exact step_at x (gate x w β) seg k s _ _ _ _ _ _ _ hids hxb hg iM iS iA

/-- The kernel's output: the pooled value of every segment. -/
theorem kernel_at (s : Fin 128) (d : Fin 512) :
    outAt m c 20 (ix2 s d) = ((pooled (gate x w β) (fun i => x i d) (Finset.univ.filter fun i => seg i = s) : ℝ) : EReal) := by
  obtain ⟨-, hS, hA⟩ := state_at m c x w β seg hx hw hβ hseg 20 le_rfl s
  unfold outAt
  rw [out_at, hS, hA, finish, seen_all]

end Cert.KernelIdeal.Pool

end
-- ==== Proof.Scatter.lean ====
/-
  The segment sums and the look-ups by segment of the reference, read at an index: a host scatter-add of one number, or of one row,
  per entry, at the idealized instance.
-/
module

public import Idealize.ShloMosaic.Lib.Pointwise
public import Idealize.ShloMosaic.Lib.Routing.OpsPair

@[expose] public section

set_option maxRecDepth 16384

noncomputable section

namespace Cert.Pool

open Idealize.ShloMosaic Idealize.ShloMosaic.Routing

/-- The dimension numbers of a segment sum of `n` numbers into `N`. -/
abbrev segDims (N n : Nat) (wf : ScatterDims.WF ⟨1, ![N]⟩ ⟨2, ![n, 1]⟩ ⟨1, ![n]⟩ [] [0] [0] 1) : ScatterDims ⟨1, ![N]⟩ ⟨2, ![n, 1]⟩ ⟨1, ![n]⟩ where
  updateWindowDims := []
  insertedWindowDims := [0]
  scatterDimsToOperandDims := [0]
  indexVectorDim := 1
  wf := wf

/-- The dimension numbers of a segment sum of `n` rows into `N`, the rows `D` long. -/
abbrev segRowDims (N n D : Nat) (wf : ScatterDims.WF ⟨2, ![N, D]⟩ ⟨2, ![n, 1]⟩ ⟨2, ![n, D]⟩ [1] [0] [0] 1) :
    ScatterDims ⟨2, ![N, D]⟩ ⟨2, ![n, 1]⟩ ⟨2, ![n, D]⟩ where
  updateWindowDims := [1]
  insertedWindowDims := [0]
  scatterDimsToOperandDims := [0]
  indexVectorDim := 1
  wf := wf

/-- Where number `i` lands. -/
theorem seg_lands {N n w : Nat} (wf) (idx : IVec ⟨2, ![n, 1]⟩ w) (i : Fin n) (e : Fin N) :
    (segDims N n wf).resultIdx? (ix1 i) idx = some (ix1 e) ↔ (idx (ix2 i 0)).toInt = (e.val : Int) := by
  rw [resultIdx?_eq_some]
  refine Fin.forall_fin_one.trans ?_
  show (segDims N n wf).start (ix1 i) idx 0 + ((segDims N n wf).window (ix1 i) 0 : Int) = (e.val : Int) ↔ _
  have hs : (segDims N n wf).start (ix1 i) idx 0 = (idx (ix2 i 0)).toInt := by
    unfold ScatterDims.start
    rw [dif_pos (show (0 : Fin 1) ∈ (segDims N n wf).scatterDimsToOperandDims from List.mem_singleton.mpr rfl)]
    refine congrArg (fun z => (idx z).toInt) ?_
    funext a; apply Fin.ext
    match a with
    | ⟨0, _⟩ => rfl
    | ⟨1, _⟩ => rfl
  have hw : (segDims N n wf).window (ix1 i) 0 = 0 := by
    unfold ScatterDims.window
    rw [dif_neg fun h => (of_decide_eq_true (List.mem_filter.1 h).2) (List.mem_singleton.2 rfl)]
  rw [hs, hw, Nat.cast_zero, add_zero]

/-- Where entry `(i, q)` of the rows lands. -/
theorem segRow_lands {N n D w : Nat} (wf) (idx : IVec ⟨2, ![n, 1]⟩ w) (i : Fin n) (q : Fin D) (e : Fin N) (d : Fin D) :
    (segRowDims N n D wf).resultIdx? (ix2 i q) idx = some (ix2 e d) ↔ (idx (ix2 i 0)).toInt = (e.val : Int) ∧ q = d := by
  rw [resultIdx?_eq_some]
  refine Fin.forall_fin_two.trans ?_
  show (segRowDims N n D wf).start (ix2 i q) idx 0 + ((segRowDims N n D wf).window (ix2 i q) 0 : Int) = (e.val : Int)
    ∧ (segRowDims N n D wf).start (ix2 i q) idx 1 + ((segRowDims N n D wf).window (ix2 i q) 1 : Int) = (d.val : Int) ↔ _
  have hs : (segRowDims N n D wf).start (ix2 i q) idx 0 = (idx (ix2 i 0)).toInt := by
    unfold ScatterDims.start
    rw [dif_pos (show (0 : Fin 2) ∈ (segRowDims N n D wf).scatterDimsToOperandDims from List.mem_singleton.mpr rfl)]
    refine congrArg (fun z => (idx z).toInt) ?_
    funext a; apply Fin.ext
    match a with
    | ⟨0, _⟩ => rfl
    | ⟨1, _⟩ => rfl
  have hs1 : (segRowDims N n D wf).start (ix2 i q) idx 1 = 0 := by
    unfold ScatterDims.start
    rw [dif_neg (show ¬(1 : Fin 2) ∈ (segRowDims N n D wf).scatterDimsToOperandDims from fun h => Nat.one_ne_zero (congrArg Fin.val (List.mem_singleton.mp h)))]
  have hw : (segRowDims N n D wf).window (ix2 i q) 0 = 0 := by
    unfold ScatterDims.window
    rw [dif_neg fun h => (of_decide_eq_true (List.mem_filter.1 h).2) (List.mem_singleton.2 rfl)]
  have hw1 : (segRowDims N n D wf).window (ix2 i q) 1 = q.val := rfl
  rw [hs, hw, hs1, hw1, Nat.cast_zero, add_zero, zero_add, Fin.ext_iff, Nat.cast_inj]

/-- A segment sum of numbers, at a segment. -/
theorem seg_apply {N n w : Nat} (wf) (x : (⟨1, ![N]⟩ : Shape).Idx → EReal) (idx : IVec ⟨2, ![n, 1]⟩ w) (upd : (⟨1, ![n]⟩ : Shape).Idx → EReal) (e : Fin N) :
    Ideal.hostScatterAdd (segDims N n wf) x idx upd (ix1 e)
      = x (ix1 e) + ∑ i : Fin n, if (idx (ix2 i 0)).toInt = (e.val : Int) then upd (ix1 i) else 0 := by
  unfold Ideal.hostScatterAdd
  rw [Finset.sum_filter, sum_idx1]
  simp only [seg_lands]

/-- A segment sum of rows, at an entry of a segment. -/
theorem segRow_apply {N n D w : Nat} (wf) (x : (⟨2, ![N, D]⟩ : Shape).Idx → EReal) (idx : IVec ⟨2, ![n, 1]⟩ w) (upd : (⟨2, ![n, D]⟩ : Shape).Idx → EReal)
    (e : Fin N) (d : Fin D) :
    Ideal.hostScatterAdd (segRowDims N n D wf) x idx upd (ix2 e d)
      = x (ix2 e d) + ∑ i : Fin n, if (idx (ix2 i 0)).toInt = (e.val : Int) then upd (ix2 i d) else 0 := by
  unfold Ideal.hostScatterAdd
  rw [Finset.sum_filter, sum_idx2]
  simp only [segRow_lands]
  refine congrArg _ (Finset.sum_congr rfl fun i _ => ?_)
  by_cases h : (idx (ix2 i 0)).toInt = (e.val : Int)
  · simp [h]
  · simp [h]

end Cert.Pool

end
-- ==== Proof.RefValue.lean ====
/-
  The reference's result over real inputs: the pooled value of every segment.
-/
module

public import proofs.«01_k».proof.Proof.Gen.ReferenceIdeal.Run
public import proofs.«01_k».proof.Proof.Online
public import proofs.«01_k».proof.Proof.Scatter
public import Idealize.ShloMosaic.Lib.Pointwise
public import Idealize.ShloMosaic.Lib.Routing.OpsSet

@[expose] public section

set_option maxRecDepth 16384

noncomputable section

namespace Cert.ReferenceIdeal.Pool

open Cert.ReferenceIdeal Cert.ReferenceIdeal.Gen Cert.ReferenceIdeal.Value Cert.Pool
open Idealize.ShloMosaic Idealize.ShloMosaic.TcCoe

variable (X : FVec Ideal S100000x512 .f32) (I : IVec S100000 32) (W : FVec Ideal S512x1 .f32) (B : FVec Ideal S1 .f32)

/-- The gates as the reference writes them. -/
def gateT : FVec Ideal S100000 .f32 :=
  shapeCast S100000 (addf (Host.dotGeneral dot_S100000x512_S512x1_S100000x1_1_0_0_1_n_n none X W) (broadcastInDim S100000x1 ![0, 1] bcast_S1x1_S100000x1_0_1 (broadcastInDim S1x1 ![1] bcast_S1_S1x1_1 B))) shapeCasts_S100000x1_S100000

/-- The segment ids, a negative one counted from the end, as a column. -/
def wrapT : IVec S100000x1 32 :=
  broadcastInDim S100000x1 ![0] bcast_S100000_S100000x1_0 (select (cmpi .slt I (broadcastInDim S100000 ![] bcast_S_S100000 (constantI S_ 32 0#32))) (addi I (broadcastInDim S100000 ![] bcast_S_S100000 (constantI S_ 32 128#32))) I)

/-- The segment ids as a column. -/
def colT : IVec S100000x1 32 := broadcastInDim S100000x1 ![0] bcast_S100000_S100000x1_0 I

/-- The largest gate of each segment. -/
def maxT (G : FVec Ideal S100000 .f32) : FVec Ideal S128 .f32 :=
  Host.reduce FloatOps.maximumf (select (cmpi .eq (broadcastInDim S128x100000 ![0, 1] bcast_S1x100000_S128x100000_0_1 (broadcastInDim S1x100000 ![1] bcast_S100000_S1x100000_1 I)) (broadcastInDim S128x100000 ![0, 1] bcast_S128x1_S128x100000_0_1 (broadcastInDim S128x1 ![0] bcast_S128_S128x1_0 (iotaInDim S128 32 0)))) (broadcastInDim S128x100000 ![0, 1] bcast_S1x100000_S128x100000_0_1 (broadcastInDim S1x100000 ![1] bcast_S100000_S1x100000_1 G)) (broadcastInDim S128x100000 ![] bcast_S_S128x100000 (id (constant S_ .f32 0xFF800000#32)))) (constant S_ .f32 0xFF800000#32) reducesTo_S128x100000_S128_d1 h_S_

/-- A value per segment, looked up at each entry's segment. -/
def lookT (v : FVec Ideal S128 .f32) : FVec Ideal S100000 .f32 := Host.gather gather_S128_S100000x1_S100000_n_0_n_n_0_1_1 v (wrapT I)

/-- The exponentials of the gates against their segment's largest. -/
def expT (G : FVec Ideal S100000 .f32) : FVec Ideal S100000 .f32 := Host.exp (subf G (lookT I (maxT I G)))

/-- The sums of the exponentials by segment. -/
def denT (E : FVec Ideal S100000 .f32) : FVec Ideal S128 .f32 :=
  Host.scatterAdd scatter_S128_S100000x1_S100000_n_0_0_1 (broadcastInDim S128 ![] bcast_S_S128 (constant S_ .f32 0x00000000#32)) (colT I) E

/-- The pooled rows. -/
def outT (E : FVec Ideal S100000 .f32) : FVec Ideal S128x512 .f32 :=
  Host.scatterAdd scatter_S128x512_S100000x1_S100000x512_1_0_0_1 (broadcastInDim S128x512 ![] bcast_S_S128x512 (constant S_ .f32 0x00000000#32)) (colT I) (mulf (broadcastInDim S100000x512 ![0, 1] bcast_S100000x1_S100000x512_0_1 (broadcastInDim S100000x1 ![0] bcast_S100000_S100000x1_0 (Host.divf E (lookT I (denT I E))))) X)

theorem res_eq (m : (ℓ : Loc nD τ sig) → Buf (Elt Ideal) ℓ) (c : Dev nD) :
    res_main_v39 m c = outT (m ((c : Thread nD τ).loc main_arg0)) (m ((c : Thread nD τ).loc main_arg1))
      (expT (m ((c : Thread nD τ).loc main_arg1)) (gateT (m ((c : Thread nD τ).loc main_arg0)) (m ((c : Thread nD τ).loc main_arg2)) (m ((c : Thread nD τ).loc main_arg3)))) := by
  unfold res_main_v39 outT denT expT lookT maxT wrapT colT gateT
  rfl

variable (x : Fin 100000 → Fin 512 → ℝ) (w : Fin 512 → ℝ) (β : ℝ) (seg : Fin 100000 → Fin 128)

theorem gateT_at (hx : ∀ i d, X (ix2 i d) = (x i d : EReal)) (hw : ∀ d, W (ix2 d 0) = (w d : EReal)) (hβ : B (ix1 0) = (β : EReal)) (i : Fin 100000) :
    gateT X W B (ix1 i) = ((∑ d, x i d * w d + β : ℝ) : EReal) := by
  have h : gateT X W B (ix1 i) = (∑ d : Fin 512, X (ix2 i d) * W (ix2 d 0) + B (ix1 0) : EReal) := by
    unfold gateT
    rw [Idealize.ShloMosaic.shapeCast_apply _ shapeCasts_S100000x1_S100000 (ix1 i) (ix2 i 0) (by
      rw [Shape.rowMajor_val_one, Shape.rowMajor_val_two]
      show i.val * 1 + 0 = i.val
      omega)]
    pointwise
  rw [h, EReal.coe_add, coe_sum, hβ]
  simp only [hx, hw, EReal.coe_mul]

variable (hseg : ∀ i, I (ix1 i) = BitVec.ofNat 32 (seg i).val)
include hseg

theorem toInt_seg (i : Fin 100000) (s : Fin 128) : (BitVec.ofNat 32 (seg i).val).toInt = (s.val : Int) ↔ seg i = s := by
  have a := (seg i).isLt
  have e : (BitVec.ofNat 32 (seg i).val).toInt = ((seg i).val : Int) := StableHlo.Predicate.toInt_ofNat_small _ (by omega)
  rw [e, Fin.ext_iff]
  omega

theorem colT_at (i : Fin 100000) : colT I (ix2 i 0) = BitVec.ofNat 32 (seg i).val := by
  unfold colT
  pointwise
  exact hseg i

theorem wrapT_at (i : Fin 100000) : wrapT I (ix2 i 0) = BitVec.ofNat 32 (seg i).val := by
  have a := (seg i).isLt
  unfold wrapT
  pointwise
  rw [hseg i]
  exact Routing.wrap_of_lt _ _ (by rw [BitVec.toNat_ofNat]; omega)

theorem lookT_at (v : FVec Ideal S128 .f32) (i : Fin 100000) : lookT I v (ix1 i) = v (ix1 (seg i)) :=
  Routing.gather_take1 gather_S128_S100000x1_S100000_n_0_n_n_0_1_1 rfl rfl rfl rfl v (wrapT I) i (seg i) (wrapT_at I seg hseg i) (by norm_num)

theorem maxT_at (G : FVec Ideal S100000 .f32) (g : Fin 100000 → ℝ) (hG : ∀ i, G (ix1 i) = (g i : EReal)) (s : Fin 128) :
    maxT I G (ix1 s) = top g (Finset.univ.filter fun i => seg i = s) := by
  unfold maxT
  pointwise
  have hb : Ideal.ofBits .f32 4286578688#32 = ⊥ := by simp [Ideal.ofBits, Ideal.ieee]
  have hc : (id (constant (F := Ideal) S_ FTy.f32 4286578688#32) ix0 : EReal) = ⊥ := hb
  have hs : ∀ i, Scalar.select (IntOp.cmpi .eq (I (ix1 i)) (BitVec.ofNat 32 s.val)) (G (ix1 i)) (id (constant (F := Ideal) S_ FTy.f32 4286578688#32) ix0)
      = (if seg i = s then (g i : EReal) else ⊥ : EReal) := fun i => by
    have a := (seg i).isLt
    have b := s.isLt
    rw [hc, hG, hseg i]
    by_cases h : seg i = s
    · rw [if_pos h, h]
      simp [IntOp.cmpi, Scalar.select]
    · have hn : ¬(BitVec.ofNat 32 (seg i).val = BitVec.ofNat 32 s.val) := fun e => h (Fin.ext (by
        have e' := congrArg BitVec.toNat e
        simp only [BitVec.toNat_ofNat] at e'
        omega))
      have he : (BitVec.ofNat 32 (seg i).val == BitVec.ofNat 32 s.val) = false := beq_eq_false_iff_ne.2 hn
      rw [if_neg h]
      simp [IntOp.cmpi, Scalar.select, he]
  rw [hb]
  simp only [hs]
  exact fold_mask _ _

theorem expT_at (G : FVec Ideal S100000 .f32) (g : Fin 100000 → ℝ) (hG : ∀ i, G (ix1 i) = (g i : EReal)) (i : Fin 100000) :
    expT I G (ix1 i) = ((Real.exp (g i - (top g (Finset.univ.filter fun i' => seg i' = seg i)).toReal) : ℝ) : EReal) := by
  have hl := lookT_at I seg hseg (maxT I G) i
  rw [maxT_at I seg hseg G g hG] at hl
  unfold expT
  generalize lookT I (maxT I G) = L at *
  pointwise
  obtain ⟨μ, hμ⟩ := top_real g (T := Finset.univ.filter fun i' => seg i' = seg i) ⟨i, by simp⟩
  rw [hl, hG, hμ, EReal.toReal_coe, ← EReal.coe_sub, Ideal.exp_coe]

theorem denT_at (E : FVec Ideal S100000 .f32) (e : Fin 100000 → ℝ) (hE : ∀ i, E (ix1 i) = (e i : EReal)) (s : Fin 128) :
    denT I E (ix1 s) = ((∑ i ∈ Finset.univ.filter (fun i => seg i = s), e i : ℝ) : EReal) := by
  have h := seg_apply scatter_S128_S100000x1_S100000_n_0_0_1_wf (broadcastInDim S128 ![] bcast_S_S128 (constant (F := Ideal) S_ .f32 0x00000000#32)) (colT I) E s
  refine Eq.trans (show denT I E (ix1 s) = _ from rfl) (h.trans ?_)
  simp only [colT_at I seg hseg, toInt_seg I seg hseg, hE]
  rw [coe_sum, Finset.sum_filter]
  pointwise

theorem outT_at (hx : ∀ i d, X (ix2 i d) = (x i d : EReal)) (E : FVec Ideal S100000 .f32) (e : Fin 100000 → ℝ) (hE : ∀ i, E (ix1 i) = (e i : EReal))
    (he : ∀ i, 0 < e i) (s : Fin 128) (d : Fin 512) :
    outT X I E (ix2 s d) = ((∑ i ∈ Finset.univ.filter (fun i => seg i = s), e i / (∑ i' ∈ Finset.univ.filter (fun i' => seg i' = s), e i') * x i d : ℝ) : EReal) := by
  have hl := fun i => lookT_at I seg hseg (denT I E) i
  simp only [denT_at I seg hseg E e hE] at hl
  unfold outT
  generalize lookT I (denT I E) = L at *
  refine (segRow_apply scatter_S128x512_S100000x1_S100000x512_1_0_0_1_wf _ (colT I) _ s d).trans ?_
  simp only [colT_at I seg hseg, toInt_seg I seg hseg]
  rw [coe_sum, Finset.sum_filter]
  have ht : ∀ i, (mulf (broadcastInDim S100000x512 ![0, 1] bcast_S100000x1_S100000x512_0_1 (broadcastInDim S100000x1 ![0] bcast_S100000_S100000x1_0 (Host.divf E L))) X) (ix2 i d)
      = (Ideal.div (E (ix1 i)) (L (ix1 i)) * X (ix2 i d) : EReal) := fun i => by pointwise
  simp only [ht, hE, hl, hx]
  have h0 : (broadcastInDim S128x512 ![] bcast_S_S128x512 (constant (F := Ideal) S_ .f32 0x00000000#32)) (ix2 s d) = (0 : EReal) := by pointwise
  rw [h0, zero_add]
  refine Finset.sum_congr rfl fun i _ => ?_
  by_cases h : seg i = s
  · rw [if_pos h, if_pos h, h]
    have hp : 0 < ∑ i' ∈ Finset.univ.filter (fun i' => seg i' = s), e i' :=
      Finset.sum_pos (fun i' _ => he i') ⟨i, by simp [h]⟩
    rw [Ideal.div_coe hp.ne', ← EReal.coe_mul, ← EReal.coe_mul, mul_one_div]
  · rw [if_neg h, if_neg h]

/-- The reference's result: the pooled value of every segment. -/
theorem ref_at (hx : ∀ i d, X (ix2 i d) = (x i d : EReal)) (hw : ∀ d, W (ix2 d 0) = (w d : EReal)) (hβ : B (ix1 0) = (β : EReal)) (s : Fin 128) (d : Fin 512) :
    outT X I (expT I (gateT X W B)) (ix2 s d)
      = ((pooled (fun i => ∑ d, x i d * w d + β) (fun i => x i d) (Finset.univ.filter fun i => seg i = s) : ℝ) : EReal) := by
  rw [outT_at X I x seg hseg hx _ _ (fun i => expT_at I seg hseg _ _ (gateT_at X W B x w β hx hw hβ) i) (fun i => Real.exp_pos _), pooled, wsum]
  refine congrArg _ (Finset.sum_congr rfl fun i hi => ?_)
  have e : ∀ i' ∈ Finset.univ.filter (fun i => seg i = s), seg i' = s := fun i' h => (Finset.mem_filter.1 h).2
  rw [e i hi]
  refine congrArg₂ _ (congrArg₂ _ rfl (Finset.sum_congr rfl fun i' hi' => ?_)) rfl
  rw [e i' hi', mul_one]

end Cert.ReferenceIdeal.Pool

end
-- ==== Proof.Inputs.lean ====
/-
  The precondition, decoded: every float of the inputs is a real and every segment id is below 128.
-/
module

public import proofs.«01_k».proof.Proof.Gen.Pre_finite_in_range
public import Idealize.ShloMosaic.Lib.Pointwise
public import Idealize.ShloMosaic.Lib.ReduceAll

@[expose] public section

set_option maxRecDepth 16384

noncomputable section

namespace Cert.Pool

open Idealize.ShloMosaic Cert.Pre_finite_in_range

/-- An extended real whose magnitude is below `⊤` is a real. -/
theorem real_of_abs (a : EReal) (h : BitVec.ofBool (decide ((FloatOps.absf (F := Ideal) (φ := .f32) a : EReal) < Ideal.ofBits .f32 2139095040#32)) = 1#1) :
    ∃ r : ℝ, a = (r : EReal) := by
  have hi : Ideal.ofBits .f32 2139095040#32 = ⊤ := by simp [Ideal.ofBits, Ideal.ieee]
  have h' : max a (-a) < ⊤ := by
    rw [hi] at h
    exact of_decide_eq_true (by
      have e : BitVec.ofBool (decide (max a (-a) < ⊤)) = 1#1 := h
      revert e
      cases decide (max a (-a) < ⊤) <;> decide)
  induction a with
  | bot => simp at h'
  | top => simp at h'
  | coe r => exact ⟨r, rfl⟩

/-- A word that is at least zero and below 128, read signed, is a number below 128. -/
theorem seg_of_word (v : BitVec 32) (h0 : IntOp.cmpi .sge v 0#32 = 1#1) (h1 : IntOp.cmpi .slt v 128#32 = 1#1) : ∃ s : Fin 128, v = BitVec.ofNat 32 s.val := by
  have one (p : Bool) : (BitVec.ofBool p = 1#1) ↔ p = true := by cases p <;> decide
  simp only [IntOp.cmpi, one, BitVec.sle, BitVec.slt, decide_eq_true_eq, BitVec.toInt, BitVec.toNat_ofNat] at h0 h1
  have hl : v.toNat < 128 := by omega
  exact ⟨⟨v.toNat, hl⟩, by simp⟩

/-- What the precondition gives at the idealized instance. -/
theorem decode (X : FVec Ideal S100000x512 .f32) (I : IVec S100000 32) (W : FVec Ideal S512x1 .f32) (B : FVec Ideal S1 .f32)
    (h : Cert.Pre_finite_in_range.fn (F := Ideal) X I W B = fun _ => 1#1) :
    (∃ x : Fin 100000 → Fin 512 → ℝ, ∀ i d, X (ix2 i d) = (x i d : EReal))
    ∧ (∃ w : Fin 512 → ℝ, ∀ d, W (ix2 d 0) = (w d : EReal))
    ∧ (∃ β : ℝ, B (ix1 0) = (β : EReal))
    ∧ ∃ seg : Fin 100000 → Fin 128, ∀ i, I (ix1 i) = BitVec.ofNat 32 (seg i).val := by
  have h0 := congrFun h ix0
  dsimp only [fn, fn_part1, andi] at h0
  simp only [IntOp.andi_eq_one] at h0
  obtain ⟨⟨⟨⟨hX, hW⟩, hB⟩, hge⟩, hlt⟩ := h0
  have hX' := fun i d => Host.reduce_andi_all _ _ _ _ _ hX (ix2 i d)
  have hW' := fun d => Host.reduce_andi_all _ _ _ _ _ hW (ix2 d 0)
  have hB' := Host.reduce_andi_all _ _ _ _ _ hB (ix1 0)
  have hge' := fun i => Host.reduce_andi_all _ _ _ _ _ hge (ix1 i)
  have hlt' := fun i => Host.reduce_andi_all _ _ _ _ _ hlt (ix1 i)
  clear hX hW hB hge hlt h
  pointwise at hX'
  pointwise at hW'
  pointwise at hB'
  pointwise at hge'
  pointwise at hlt'
  choose x hx using fun i d => real_of_abs _ (hX' i d)
  choose w hw using fun d => real_of_abs _ (hW' d)
  obtain ⟨β, hβ⟩ := real_of_abs _ hB'
  choose seg hseg using fun i => seg_of_word _ (hge' i) (hlt' i)
  exact ⟨⟨x, hx⟩, ⟨w, hw⟩, ⟨β, hβ⟩, seg, hseg⟩

end Cert.Pool

end
-- ==== Proof.lean ====
/-
  The proof of `Cert.Claim`: the frames of the kernel (on bit patterns and idealized) and of the reference, the idealization, and the
  equality of the idealized kernel's result with the reference's on real inputs whose segment ids are below 128.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Pre_finite_in_range
public import proofs.«01_k».proof.Proof.Gen.ReferenceIdeal
public import proofs.«01_k».proof.Proof.Final
public import proofs.«01_k».proof.Proof.BitsFinal
public import proofs.«01_k».proof.Proof.KernelValue
public import proofs.«01_k».proof.Proof.RefValue
public import proofs.«01_k».proof.Proof.Inputs
public import Idealize.ShloMosaic.Adequacy
public import Idealize.ShloMosaic.Init

@[expose] public section

noncomputable section

namespace Cert.Proof

open Idealize.ShloMosaic Idealize.ShloMosaic.TcCoe Idealize.SL.Sem

/-- Over inputs that meet the precondition, the idealized kernel's result is the reference's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_finite_in_range.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v39 m' c = Cert.KernelIdeal.Pool.outAt m c 20 := by
  obtain ⟨⟨x, hx⟩, ⟨w, hw⟩, ⟨β, hβ⟩, seg, hseg⟩ := Cert.Pool.decode _ _ _ _ hp
  rw [Cert.ReferenceIdeal.Pool.res_eq]
  funext i
  rw [eq_ix2 i]
  refine Eq.trans ?_ (Cert.KernelIdeal.Pool.kernel_at m c x w β seg hx hw hβ hseg _ _).symm
  exact Cert.ReferenceIdeal.Pool.ref_at _ _ _ _ x w β seg (fun i => (congrFun h1 _).trans (hseg i)) (fun i d => (congrFun h0 _).trans (hx i d))
    (fun d => (congrFun h2 _).trans (hw d)) ((congrFun h3 _).trans hβ) _ _

/-- The kernel on bit patterns leaves its arguments as launched and every semaphore at zero. -/
theorem bits_frame : Cert.quiescent_Kernel (hKernel := Cert.Kernel.Gen.facts) := fun m g _ =>
  (θ_run (Cert.Kernel.defs (F := Bits)) _ _).mono (fun _ h => And.intro (fun c => (h.1 c).2) h.2) (Cert.Kernel.Pool.run m g)

/-- The idealized kernel leaves its arguments as launched and every semaphore at zero. -/
theorem kernel_frame : Cert.quiescent_KernelIdeal (hKernelIdeal := Cert.KernelIdeal.Gen.facts) := fun m g _ =>
  (θ_run (Cert.KernelIdeal.defs (F := Ideal)) _ _).mono (fun _ h => And.intro (fun c => (h.1 c).2) h.2) (Cert.KernelIdeal.Pool.run m g)

/-- The reference leaves its arguments as launched and every semaphore at zero. -/
theorem reference_frame : Cert.quiescent_ReferenceIdeal (hReferenceIdeal := Cert.ReferenceIdeal.Gen.facts) := fun m g _ =>
  (θ_run (Cert.ReferenceIdeal.defs (F := Ideal)) _ _).mono
    (fun _ h => ⟨fun c => (h c).2, by funext s; exact nomatch s⟩) (Cert.ReferenceIdeal.Value.run m g)

/-- Everything this certificate claims. -/
theorem claim : Cert.Claim :=
  ⟨Cert.Kernel.Gen.facts, Cert.KernelIdeal.Gen.facts, Cert.ReferenceIdeal.Gen.facts, Cert.Pre_finite_in_range.Gen.facts,
    bits_frame,
    kernel_frame,
    fun m g _ => kernel_frame m g trivial,
    reference_frame,
    fun m g _ => reference_frame m g trivial,
    trivial,
    fun m g m' g' hp ha => ⟨fun c => Cert.KernelIdeal.Pool.outAt m c 20,
      (θ_run (Cert.KernelIdeal.defs (F := Ideal)) _ _).mono (fun _ h => h.1) (Cert.KernelIdeal.Pool.run m g),
      (θ_run (Cert.ReferenceIdeal.defs (F := Ideal)) _ _).mono
        (fun _ h c => ⟨(h c).1.trans (value_eq m m' c (hp c) (ha c).1 (ha c).2.1 (ha c).2.2.1 (ha c).2.2.2), (h c).2⟩)
        (Cert.ReferenceIdeal.Value.run m' g')⟩⟩

end Cert.Proof

end
